-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_count" .f32 0x39638E39#32 ((1 / 4608 : ℝ) : EReal)
  ∧ IdealRules.named_const.Statement Cert.KernelIdeal.κ "inv_six28" .f32 0x3E230EAD#32 ((25 / 157 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x48x48x256 : Shape := ⟨4, ![4, 48, 48, 256]⟩
abbrev S4x48x48x48x48 : Shape := ⟨5, ![4, 48, 48, 48, 48]⟩
abbrev S16x256 : Shape := ⟨2, ![16, 256]⟩
abbrev S16 : Shape := ⟨1, ![16]⟩
abbrev S2x16 : Shape := ⟨2, ![2, 16]⟩
abbrev S2 : Shape := ⟨1, ![2]⟩
abbrev S_ : Shape := ⟨0, ![]⟩
abbrev S4x16 : Shape := ⟨2, ![4, 16]⟩
abbrev S8x16 : Shape := ⟨2, ![8, 16]⟩
abbrev S4 : Shape := ⟨1, ![4]⟩
abbrev S8 : Shape := ⟨1, ![8]⟩
abbrev S8x1 : Shape := ⟨2, ![8, 1]⟩
abbrev S4x4 : Shape := ⟨2, ![4, 4]⟩
abbrev S4x4x2304 : Shape := ⟨3, ![4, 4, 2304]⟩
abbrev S4x9216 : Shape := ⟨2, ![4, 9216]⟩
abbrev S9216 : Shape := ⟨1, ![9216]⟩
abbrev S1x9216 : Shape := ⟨2, ![1, 9216]⟩
abbrev S256x16 : Shape := ⟨2, ![256, 16]⟩
abbrev S1x16 : Shape := ⟨2, ![1, 16]⟩
abbrev S4x48x48x2 : Shape := ⟨4, ![4, 48, 48, 2]⟩
abbrev S4x2304 : Shape := ⟨2, ![4, 2304]⟩
abbrev S1x8x48x48x48 : Shape := ⟨5, ![1, 8, 48, 48, 48]⟩
abbrev S9216x8 : Shape := ⟨2, ![9216, 8]⟩
abbrev S9216x256 : Shape := ⟨2, ![9216, 256]⟩
abbrev S9216x16 : Shape := ⟨2, ![9216, 16]⟩
abbrev S8x9216 : Shape := ⟨2, ![8, 9216]⟩
abbrev S2x9216 : Shape := ⟨2, ![2, 9216]⟩
abbrev S2x4 : Shape := ⟨2, ![2, 4]⟩
abbrev S1x4 : Shape := ⟨2, ![1, 4]⟩
abbrev S9216x2 : Shape := ⟨2, ![9216, 2]⟩
abbrev S384x8 : Shape := ⟨2, ![384, 8]⟩
abbrev S384x1 : Shape := ⟨2, ![384, 1]⟩
abbrev S8x48x1 : Shape := ⟨3, ![8, 48, 1]⟩
abbrev S8x48x48 : Shape := ⟨3, ![8, 48, 48]⟩
abbrev S8x48x48x48 : Shape := ⟨4, ![8, 48, 48, 48]⟩
abbrev S8x48x48x1 : Shape := ⟨4, ![8, 48, 48, 1]⟩
abbrev S8x48x1x48 : Shape := ⟨4, ![8, 48, 1, 48]⟩

abbrev nBuf : Space → Nat
  | .hbm => 96
  | .vmem => 15
  | .smem => 0
  | _ => 0

abbrev bufTy : (tb : Table) → Fin (tcTables nBuf tb) → BufTy
  | .hbm, ⟨0, _⟩ => ⟨S4x48x48x256, .f32⟩
  | .hbm, ⟨1, _⟩ => ⟨S4x48x48x48x48, .f32⟩
  | .hbm, ⟨2, _⟩ => ⟨S16x256, .f32⟩
  | .hbm, ⟨3, _⟩ => ⟨S16, .f32⟩
  | .hbm, ⟨4, _⟩ => ⟨S2x16, .f32⟩
  | .hbm, ⟨5, _⟩ => ⟨S2, .f32⟩
  | .hbm, ⟨6, _⟩ => ⟨S2x16, .f32⟩
  | .hbm, ⟨7, _⟩ => ⟨S2, .f32⟩
  | .hbm, ⟨8, _⟩ => ⟨S_, .f32⟩
  | .hbm, ⟨9, _⟩ => ⟨S4x16, .f32⟩
  | .hbm, ⟨10, _⟩ => ⟨S8x16, .f32⟩
  | .hbm, ⟨11, _⟩ => ⟨S_, .f32⟩
  | .hbm, ⟨12, _⟩ => ⟨S4, .f32⟩
  | .hbm, ⟨13, _⟩ => ⟨S8, .f32⟩
  | .hbm, ⟨14, _⟩ => ⟨S8x1, .f32⟩
  | .hbm, ⟨15, _⟩ => ⟨S4x4, .i32⟩
  | .hbm, ⟨16, _⟩ => ⟨S4x4, .i32⟩
  | .hbm, ⟨17, _⟩ => ⟨S_, .i32⟩
  | .hbm, ⟨18, _⟩ => ⟨S4x4, .i32⟩
  | .hbm, ⟨19, _⟩ => ⟨S4x4, .i32⟩
  | .hbm, ⟨20, _⟩ => ⟨S4x4, .i1⟩
  | .hbm, ⟨21, _⟩ => ⟨S4x4, .f32⟩
  | .hbm, ⟨22, _⟩ => ⟨S4x4x2304, .f32⟩
  | .hbm, ⟨23, _⟩ => ⟨S4x9216, .f32⟩
  | .hbm, ⟨24, _⟩ => ⟨S9216, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S9216, .i32⟩
  | .hbm, ⟨32, _⟩ => ⟨S9216, .i32⟩
  | .hbm, ⟨33, _⟩ => ⟨S_, .i32⟩
  | .hbm, ⟨34, _⟩ => ⟨S9216, .i32⟩
  | .hbm, ⟨35, _⟩ => ⟨S9216, .i1⟩
  | .hbm, ⟨36, _⟩ => ⟨S_, .i32⟩
  | .hbm, ⟨37, _⟩ => ⟨S9216, .i32⟩
  | .hbm, ⟨38, _⟩ => ⟨S9216, .i1⟩
  | .hbm, ⟨39, _⟩ => ⟨S_, .i32⟩
  | .hbm, ⟨40, _⟩ => ⟨S_, .i1⟩
  | .hbm, ⟨41, _⟩ => ⟨S9216, .i1⟩
  | .hbm, ⟨42, _⟩ => ⟨S9216, .i1⟩
  | .hbm, ⟨43, _⟩ => ⟨S9216, .i1⟩
  | .hbm, ⟨44, _⟩ => ⟨S9216, .i32⟩
  | .hbm, ⟨45, _⟩ => ⟨S9216, .i32⟩
  | .hbm, ⟨46, _⟩ => ⟨S9216, .i32⟩
  | .hbm, ⟨47, _⟩ => ⟨S9216, .f32⟩
  | .hbm, ⟨48, _⟩ => ⟨S1x9216, .f32⟩
  | .hbm, ⟨49, _⟩ => ⟨S_, .i32⟩
  | .hbm, ⟨50, _⟩ => ⟨S_, .i32⟩
  | .hbm, ⟨51, _⟩ => ⟨S9216, .i32⟩
  | .hbm, ⟨52, _⟩ => ⟨S9216, .i32⟩
  | .hbm, ⟨53, _⟩ => ⟨S9216, .i32⟩
  | .hbm, ⟨54, _⟩ => ⟨S_, .i32⟩
  | .hbm, ⟨55, _⟩ => ⟨S9216, .i32⟩
  | .hbm, ⟨56, _⟩ => ⟨S9216, .i1⟩
  | .hbm, ⟨57, _⟩ => ⟨S9216, .i32⟩
  | .hbm, ⟨58, _⟩ => ⟨S9216, .i32⟩
  | .hbm, ⟨59, _⟩ => ⟨S_, .i32⟩
  | .hbm, ⟨60, _⟩ => ⟨S9216, .i32⟩
  | .hbm, ⟨61, _⟩ => ⟨S9216, .i1⟩
  | .hbm, ⟨62, _⟩ => ⟨S9216, .i1⟩
  | .hbm, ⟨63, _⟩ => ⟨S_, .i32⟩
  | .hbm, ⟨64, _⟩ => ⟨S9216, .i32⟩
  | .hbm, ⟨65, _⟩ => ⟨S9216, .i32⟩
  | .hbm, ⟨66, _⟩ => ⟨S9216, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i1⟩
  | .hbm, ⟨71, _⟩ => ⟨S_, .i32⟩
  | .hbm, ⟨72, _⟩ => ⟨S_, .i32⟩
  | .hbm, ⟨73, _⟩ => ⟨S9216, .i32⟩
  | .hbm, ⟨74, _⟩ => ⟨S9216, .i32⟩
  | .hbm, ⟨75, _⟩ => ⟨S_, .i32⟩
  | .hbm, ⟨76, _⟩ => ⟨S9216, .i32⟩
  | .hbm, ⟨77, _⟩ => ⟨S9216, .i1⟩
  | .hbm, ⟨78, _⟩ => ⟨S_, .i32⟩
  | .hbm, ⟨79, _⟩ => ⟨S9216, .i32⟩
  | .hbm, ⟨80, _⟩ => ⟨S9216, .i1⟩
  | .hbm, ⟨81, _⟩ => ⟨S_, .i32⟩
  | .hbm, ⟨82, _⟩ => ⟨S_, .i1⟩
  | .hbm, ⟨83, _⟩ => ⟨S9216, .i1⟩
  | .hbm, ⟨84, _⟩ => ⟨S9216, .i1⟩
  | .hbm, ⟨85, _⟩ => ⟨S9216, .i1⟩
  | .hbm, ⟨86, _⟩ => ⟨S9216, .i32⟩
  | .hbm, ⟨87, _⟩ => ⟨S9216, .i32⟩
  | .hbm, ⟨88, _⟩ => ⟨S9216, .i32⟩
  | .hbm, ⟨89, _⟩ => ⟨S9216, .f32⟩
  | .hbm, ⟨90, _⟩ => ⟨S1x9216, .f32⟩
  | .hbm, ⟨91, _⟩ => ⟨S256x16, .f32⟩
  | .hbm, ⟨92, _⟩ => ⟨S1x16, .f32⟩
  | .hbm, ⟨93, _⟩ => ⟨S4x48x48x48x48, .f32⟩
  | .hbm, ⟨94, _⟩ => ⟨S4x48x48x2, .f32⟩
  | .hbm, ⟨95, _⟩ => ⟨S4x2304, .f32⟩
  | .local _ .vmem, ⟨0, _⟩ => ⟨S4x48x48x256, .f32⟩
  | .local _ .vmem, ⟨1, _⟩ => ⟨S256x16, .f32⟩
  | .local _ .vmem, ⟨2, _⟩ => ⟨S1x16, .f32⟩
  | .local _ .vmem, ⟨3, _⟩ => ⟨S8x16, .f32⟩
  | .local _ .vmem, ⟨4, _⟩ => ⟨S8x1, .f32⟩
  | .local _ .vmem, ⟨5, _⟩ => ⟨S4x9216, .f32⟩
  | .local _ .vmem, ⟨6, _⟩ => ⟨S1x9216, .f32⟩
  | .local _ .vmem, ⟨7, _⟩ => ⟨S1x9216, .f32⟩
  | .local _ .vmem, ⟨8, _⟩ => ⟨S1x8x48x48x48, .f32⟩
  | .local _ .vmem, ⟨9, _⟩ => ⟨S1x8x48x48x48, .f32⟩
  | .local _ .vmem, ⟨10, _⟩ => ⟨S1x8x48x48x48, .f32⟩
  | .local _ .vmem, ⟨11, _⟩ => ⟨S1x8x48x48x48, .f32⟩
  | .local _ .vmem, ⟨12, _⟩ => ⟨S4x48x48x2, .f32⟩
  | .local _ .vmem, ⟨13, _⟩ => ⟨S4x2304, .f32⟩
  | .local _ .vmem, ⟨14, _⟩ => ⟨S9216x8, .f32⟩
  | _, _ => ⟨S4x48x48x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_1 : Ref sig .tc := ⟨.hbm, 33, rfl⟩
abbrev main_call0_v5 : Ref sig .tc := ⟨.hbm, 34, rfl⟩
abbrev main_call0_v6 : Ref sig .tc := ⟨.hbm, 35, rfl⟩
abbrev main_call0_c_2 : Ref sig .tc := ⟨.hbm, 36, rfl⟩
abbrev main_call0_v7 : Ref sig .tc := ⟨.hbm, 37, rfl⟩
abbrev main_call0_v8 : Ref sig .tc := ⟨.hbm, 38, rfl⟩
abbrev main_call0_c_3 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_c_2 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_c : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_0 : Ref sig .tc := ⟨.hbm, 63, rfl⟩
abbrev main_call1_v12 : Ref sig .tc := ⟨.hbm, 64, rfl⟩
abbrev main_call1_v13 : Ref sig .tc := ⟨.hbm, 65, rfl⟩
abbrev main_v17 : Ref sig .tc := ⟨.hbm, 66, rfl⟩
abbrev main_c_3 : Ref sig .tc := ⟨.hbm, 67, rfl⟩
abbrev main_call2_v0 : Ref sig .tc := ⟨.hbm, 68, rfl⟩
abbrev main_call2_c : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_c_1 : Ref sig .tc := ⟨.hbm, 75, rfl⟩
abbrev main_call2_v5 : Ref sig .tc := ⟨.hbm, 76, rfl⟩
abbrev main_call2_v6 : Ref sig .tc := ⟨.hbm, 77, rfl⟩
abbrev main_call2_c_2 : Ref sig .tc := ⟨.hbm, 78, rfl⟩
abbrev main_call2_v7 : Ref sig .tc := ⟨.hbm, 79, rfl⟩
abbrev main_call2_v8 : Ref sig .tc := ⟨.hbm, 80, rfl⟩
abbrev main_call2_c_3 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_v18 : Ref sig .tc := ⟨.hbm, 88, rfl⟩
abbrev main_v19 : Ref sig .tc := ⟨.hbm, 89, rfl⟩
abbrev main_v20 : Ref sig .tc := ⟨.hbm, 90, rfl⟩
abbrev main_v21 : Ref sig .tc := ⟨.hbm, 91, rfl⟩
abbrev main_v22 : Ref sig .tc := ⟨.hbm, 92, rfl⟩
abbrev main_v23_0 : Ref sig .tc := ⟨.hbm, 93, rfl⟩
abbrev main_v23_1 : Ref sig .tc := ⟨.hbm, 94, rfl⟩
abbrev main_v23_2 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9
abbrev cc0_sem9_0 : DmaSem sig := 10
abbrev cc0_sem9_1 : DmaSem sig := 11
abbrev cc0_sem10_0 : DmaSem sig := 12
abbrev cc0_sem11_0 : DmaSem sig := 13

abbrev nD : Nat := 1
abbrev τ : Topo := Topo.v7x

variable {F : FTy → Type} [FloatOps F]

abbrev grid0 : Pipeline.Grid := ⟨2, ![4, 6], ![false, false]⟩

def k0_off1 (i : grid0.Coords) : Fin 2 → Nat :=
  let arg0 : BitVec 32 := BitVec.ofNat 32 (i 0).val
  let c6_i32 : BitVec 32 := 6#32
  let v5 : BitVec 32 := Scalar.muli arg0 c6_i32
  let arg1 : BitVec 32 := BitVec.ofNat 32 (i 1).val
  let v6 : BitVec 32 := Scalar.addi v5 arg1
  let c8_i32 : BitVec 32 := 8#32
  let v7 : BitVec 32 := Scalar.muli v6 c8_i32
  let c48_i32 : BitVec 32 := 48#32
  let v8 : BitVec 32 := Scalar.muli v7 c48_i32
  let v9 : Index := Scalar.indexCast v8
  let c0 : Index := 0#32
  ![v9.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x48x48x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x9216 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x48x48x48 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x48x48x48 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S4x48x48x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x2304 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== KernelIdeal.lean ====
variable {F : FTy → Type} [FloatOps F] [Named F]
def κ : String → Option EReal := fun
  | "inv_count" => some ((1 / 4608 : ℝ) : EReal)
  | "inv_six28" => some ((25 / 157 : ℝ) : EReal)
  | _ => none
-- ==== ReferenceIdeal.lean ====
abbrev S4x48x48x256 : Shape := ⟨4, ![4, 48, 48, 256]⟩
abbrev S4x48x48x48x48 : Shape := ⟨5, ![4, 48, 48, 48, 48]⟩
abbrev S16x256 : Shape := ⟨2, ![16, 256]⟩
abbrev S16 : Shape := ⟨1, ![16]⟩
abbrev S2x16 : Shape := ⟨2, ![2, 16]⟩
abbrev S2 : Shape := ⟨1, ![2]⟩
abbrev S256x16 : Shape := ⟨2, ![256, 16]⟩
abbrev S4x48x48x16 : Shape := ⟨4, ![4, 48, 48, 16]⟩
abbrev S1x1x1x16 : Shape := ⟨4, ![1, 1, 1, 16]⟩
abbrev S16x2 : Shape := ⟨2, ![16, 2]⟩
abbrev S4x48x48x2 : Shape := ⟨4, ![4, 48, 48, 2]⟩
abbrev S1x1x1x2 : Shape := ⟨4, ![1, 1, 1, 2]⟩
abbrev S4x2304x2 : Shape := ⟨3, ![4, 2304, 2]⟩
abbrev S_ : Shape := ⟨0, ![]⟩
abbrev S4 : Shape := ⟨1, ![4]⟩
abbrev S4x1x1 : Shape := ⟨3, ![4, 1, 1]⟩
abbrev S4x2304x1 : Shape := ⟨3, ![4, 2304, 1]⟩
abbrev S4x2304 : Shape := ⟨2, ![4, 2304]⟩
abbrev S48 : Shape := ⟨1, ![48]⟩
abbrev S48x48 : Shape := ⟨2, ![48, 48]⟩
abbrev S48x48x1 : Shape := ⟨3, ![48, 48, 1]⟩
abbrev S48x48x2 : Shape := ⟨3, ![48, 48, 2]⟩
abbrev S1x48x48x2 : Shape := ⟨4, ![1, 48, 48, 2]⟩
abbrev S1x1x1x1x48 : Shape := ⟨5, ![1, 1, 1, 1, 48]⟩
abbrev S1x1x1x48x1 : Shape := ⟨5, ![1, 1, 1, 48, 1]⟩
abbrev S4x48x48x1 : Shape := ⟨4, ![4, 48, 48, 1]⟩
abbrev S4x48x48 : Shape := ⟨3, ![4, 48, 48]⟩
abbrev S4x48x48x1x1 : Shape := ⟨5, ![4, 48, 48, 1, 1]⟩
abbrev S4x48x48x1x48 : Shape := ⟨5, ![4, 48, 48, 1, 48]⟩
abbrev S4x48x48x48x1 : Shape := ⟨5, ![4, 48, 48, 48, 1]⟩

abbrev nBuf : Space → Nat
  | .hbm => 155
  | .vmem => 0
  | .smem => 0
  | _ => 0

abbrev hbmTy0_0 (i : Nat) : BufTy := match i % 128 with
  | 0 => ⟨S4x48x48x256, .f32⟩
  | 1 => ⟨S4x48x48x48x48, .f32⟩
  | 2 => ⟨S16x256, .f32⟩
  | 3 => ⟨S16, .f32⟩
  | 4 => ⟨S2x16, .f32⟩
  | 5 => ⟨S2, .f32⟩
  | 6 => ⟨S2x16, .f32⟩
  | 7 => ⟨S2, .f32⟩
  | 8 => ⟨S256x16, .f32⟩
  | 9 => ⟨S4x48x48x16, .f32⟩
  | 10 => ⟨S1x1x1x16, .f32⟩
  | 11 => ⟨S4x48x48x16, .f32⟩
  | 12 => ⟨S4x48x48x16, .f32⟩
  | 13 => ⟨S4x48x48x16, .f32⟩
  | 14 => ⟨S16x2, .f32⟩
  | 15 => ⟨S4x48x48x2, .f32⟩
  | 16 => ⟨S1x1x1x2, .f32⟩
  | 17 => ⟨S4x48x48x2, .f32⟩
  | 18 => ⟨S4x48x48x2, .f32⟩
  | 19 => ⟨S4x2304x2, .f32⟩
  | 20 => ⟨S16x2, .f32⟩
  | 21 => ⟨S4x48x48x2, .f32⟩
  | 22 => ⟨S1x1x1x2, .f32⟩
  | 23 => ⟨S4x48x48x2, .f32⟩
  | 24 => ⟨S4x48x48x2, .f32⟩
  | 25 => ⟨S4x2304x2, .f32⟩
  | 26 => ⟨S_, .f32⟩
  | 27 => ⟨S4, .f32⟩
  | 28 => ⟨S_, .f32⟩
  | 29 => ⟨S4, .f32⟩
  | 30 => ⟨S4, .f32⟩
  | 31 => ⟨S4x1x1, .f32⟩
  | 32 => ⟨S_, .i32⟩
  | 33 => ⟨S_, .f32⟩
  | 34 => ⟨S4, .f32⟩
  | 35 => ⟨S4x1x1, .f32⟩
  | 36 => ⟨S_, .f32⟩
  | 37 => ⟨S4x1x1, .f32⟩
  | 38 => ⟨S4x1x1, .f32⟩
  | 39 => ⟨S4x2304x2, .f32⟩
  | 40 => ⟨S4x2304x2, .f32⟩
  | 41 => ⟨S4x2304x2, .f32⟩
  | 42 => ⟨S_, .f32⟩
  | 43 => ⟨S_, .f32⟩
  | 44 => ⟨S_, .f32⟩
  | 45 => ⟨S_, .f32⟩
  | 46 => ⟨S4, .f32⟩
  | 47 => ⟨S4, .f32⟩
  | 48 => ⟨S4, .f32⟩
  | 49 => ⟨S_, .f32⟩
  | 50 => ⟨S_, .i1⟩
  | 51 => ⟨S_, .f32⟩
  | 52 => ⟨S_, .f32⟩
  | 53 => ⟨S4, .f32⟩
  | 54 => ⟨S4, .f32⟩
  | 55 => ⟨S_, .f32⟩
  | 56 => ⟨S4, .f32⟩
  | 57 => ⟨S4, .f32⟩
  | 58 => ⟨S4, .f32⟩
  | 59 => ⟨S4x1x1, .f32⟩
  | 60 => ⟨S4x2304x2, .f32⟩
  | 61 => ⟨S4x2304x2, .f32⟩
  | 62 => ⟨S4x2304x2, .f32⟩
  | 63 => ⟨S4x2304x2, .f32⟩
  | 64 => ⟨S4x2304x2, .f32⟩
  | 65 => ⟨S4x2304x2, .f32⟩
  | 66 => ⟨S_, .f32⟩
  | 67 => ⟨S4x2304x2, .f32⟩
  | 68 => ⟨S4x2304x2, .f32⟩
  | 69 => ⟨S_, .f32⟩
  | 70 => ⟨S4x2304x2, .f32⟩
  | 71 => ⟨S4x2304x2, .f32⟩
  | 72 => ⟨S_, .f32⟩
  | 73 => ⟨S4x2304x2, .f32⟩
  | 74 => ⟨S4x2304x2, .f32⟩
  | 75 => ⟨S_, .f32⟩
  | 76 => ⟨S4x2304x2, .f32⟩
  | 77 => ⟨S4x2304x2, .f32⟩
  | 78 => ⟨S4x2304x1, .f32⟩
  | 79 => ⟨S4x2304, .f32⟩
  | 80 => ⟨S4x2304x1, .f32⟩
  | 81 => ⟨S4x2304, .f32⟩
  | 82 => ⟨S4x2304, .f32⟩
  | 83 => ⟨S4x48x48x2, .f32⟩
  | 84 => ⟨S4x48x48x2, .f32⟩
  | 85 => ⟨S48, .f32⟩
  | 86 => ⟨S48, .f32⟩
  | 87 => ⟨S48x48, .f32⟩
  | 88 => ⟨S48x48, .f32⟩
  | 89 => ⟨S48x48x1, .f32⟩
  | 90 => ⟨S48x48x1, .f32⟩
  | 91 => ⟨S48x48x2, .f32⟩
  | 92 => ⟨S1x48x48x2, .f32⟩
  | 93 => ⟨S4x48x48x2, .f32⟩
  | 94 => ⟨S4x48x48x2, .f32⟩
  | 95 => ⟨S48, .f32⟩
  | 96 => ⟨S1x1x1x1x48, .f32⟩
  | 97 => ⟨S48, .f32⟩
  | 98 => ⟨S1x1x1x48x1, .f32⟩
  | 99 => ⟨S4x48x48x1, .f32⟩
  | 100 => ⟨S4x48x48, .f32⟩
  | 101 => ⟨S4x48x48x1x1, .f32⟩
  | 102 => ⟨S4x48x48x1, .f32⟩
  | 103 => ⟨S4x48x48, .f32⟩
  | 104 => ⟨S4x48x48x1x1, .f32⟩
  | 105 => ⟨S4x48x48x1, .f32⟩
  | 106 => ⟨S4x48x48, .f32⟩
  | 107 => ⟨S4x48x48x1x1, .f32⟩
  | 108 => ⟨S4x48x48x1, .f32⟩
  | 109 => ⟨S4x48x48, .f32⟩
  | 110 => ⟨S4x48x48x1x1, .f32⟩
  | 111 => ⟨S4x48x48x1x48, .f32⟩
  | 112 => ⟨S4x48x48x1x48, .f32⟩
  | 113 => ⟨S4x48x48x1x48, .f32⟩
  | 114 => ⟨S4x48x48x48x1, .f32⟩
  | 115 => ⟨S4x48x48x48x1, .f32⟩
  | 116 => ⟨S4x48x48x48x1, .f32⟩
  | 117 => ⟨S4x48x48x1x48, .f32⟩
  | 118 => ⟨S4x48x48x1x48, .f32⟩
  | 119 => ⟨S4x48x48x1x48, .f32⟩
  | 120 => ⟨S4x48x48x48x1, .f32⟩
  | 121 => ⟨S4x48x48x48x1, .f32⟩
  | 122 => ⟨S4x48x48x48x1, .f32⟩
  | 123 => ⟨S4x48x48x48x48, .f32⟩
  | 124 => ⟨S4x48x48x48x48, .f32⟩
  | 125 => ⟨S4x48x48x48x48, .f32⟩
  | 126 => ⟨S_, .f32⟩
  | 127 => ⟨S4x48x48x48x48, .f32⟩
  | _ => ⟨S4x48x48x256, .f32⟩

abbrev hbmTy0_1 (i : Nat) : BufTy := match i % 128 with
  | 0 => ⟨S4x48x48x48x48, .f32⟩
  | 1 => ⟨S4x48x48x48x48, .f32⟩
  | 2 => ⟨S4x48x48x1x48, .f32⟩
  | 3 => ⟨S_, .f32⟩
  | 4 => ⟨S4x48x48x1x48, .f32⟩
  | 5 => ⟨S4x48x48x1x48, .i1⟩
  | 6 => ⟨S4x48x48x48x1, .f32⟩
  | 7 => ⟨S_, .f32⟩
  | 8 => ⟨S4x48x48x48x1, .f32⟩
  | 9 => ⟨S4x48x48x48x1, .i1⟩
  | 10 => ⟨S4x48x48x48x48, .i1⟩
  | 11 => ⟨S4x48x48x48x48, .i1⟩
  | 12 => ⟨S4x48x48x48x48, .i1⟩
  | 13 => ⟨S4x48x48x48x48, .f32⟩
  | 14 => ⟨S4x48x48x48x48, .f32⟩
  | 15 => ⟨S4x48x48x48x48, .f32⟩
  | 16 => ⟨S4x2304, .f32⟩
  | 17 => ⟨S_, .f32⟩
  | 18 => ⟨S4x2304, .f32⟩
  | 19 => ⟨S4x2304, .f32⟩
  | 20 => ⟨S_, .f32⟩
  | 21 => ⟨S4x2304, .f32⟩
  | 22 => ⟨S4x2304, .f32⟩
  | 23 => ⟨S4x48x48x1x1, .f32⟩
  | 24 => ⟨S4x48x48x48x48, .f32⟩
  | 25 => ⟨S4x48x48x48x48, .f32⟩
  | 26 => ⟨S4x48x48x48x48, .f32⟩
  | _ => ⟨S4x48x48x256, .f32⟩

abbrev hbmTy (i : Nat) : BufTy := match i / 128 with
  | 0 => hbmTy0_0 i
  | 1 => hbmTy0_1 i
  | _ => ⟨S4x48x48x256, .f32⟩

abbrev bufTy : (tb : Table) → Fin (tcTables nBuf tb) → BufTy
  | .hbm, ⟨i, _⟩ => hbmTy i
  | _, _ => ⟨S4x48x48x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_cst_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_cst_1 : Ref sig .tc := ⟨.hbm, 43, rfl⟩
abbrev main_call0_v8 : Ref sig .tc := ⟨.hbm, 44, rfl⟩
abbrev main_call0_cst_2 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_cst_3 : Ref sig .tc := ⟨.hbm, 49, rfl⟩
abbrev main_call0_v12 : Ref sig .tc := ⟨.hbm, 50, rfl⟩
abbrev main_call0_cst_4 : Ref sig .tc := ⟨.hbm, 51, rfl⟩
abbrev main_call0_call0_v0 : Ref sig .tc := ⟨.hbm, 52, rfl⟩
abbrev main_call0_call0_v1 : Ref sig .tc := ⟨.hbm, 53, rfl⟩
abbrev main_v22 : Ref sig .tc := ⟨.hbm, 54, rfl⟩
abbrev main_cst_1 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_2 : Ref sig .tc := ⟨.hbm, 66, rfl⟩
abbrev main_v33 : Ref sig .tc := ⟨.hbm, 67, rfl⟩
abbrev main_v34 : Ref sig .tc := ⟨.hbm, 68, rfl⟩
abbrev main_cst_3 : Ref sig .tc := ⟨.hbm, 69, rfl⟩
abbrev main_v35 : Ref sig .tc := ⟨.hbm, 70, rfl⟩
abbrev main_v36 : Ref sig .tc := ⟨.hbm, 71, rfl⟩
abbrev main_cst_4 : Ref sig .tc := ⟨.hbm, 72, rfl⟩
abbrev main_v37 : Ref sig .tc := ⟨.hbm, 73, rfl⟩
abbrev main_v38 : Ref sig .tc := ⟨.hbm, 74, rfl⟩
abbrev main_cst_5 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_6 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_7 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_8 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_9 : Ref sig .tc := ⟨.hbm, 145, rfl⟩
abbrev main_v105 : Ref sig .tc := ⟨.hbm, 146, rfl⟩
abbrev main_v106 : Ref sig .tc := ⟨.hbm, 147, rfl⟩
abbrev main_cst_10 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩

abbrev nD : Nat := 1
abbrev τ : Topo := Topo.v7x

variable {F : FTy → Type} [FloatOps F]
-- ==== Proof.BodyVals.lean ====
/- What the kernel body computes, as functions of the contents of its windows and of its scratch, the branch condition
   of the body in closed form, and the names the body runs share. -/
module

public import proofs.«01_k».proof.Proof.Gen.KernelIdeal.Frame
public import proofs.«01_k».proof.Proof.Gen.KernelIdeal.Skeleton
public import proofs.«01_k».proof.Proof.Gen.KernelIdeal.Launch
public import Idealize.ShloMosaic.Lib.Claim
public import Idealize.ShloMosaic.Lib.VecWindow
public import Idealize.ShloMosaic.Lib.Pipeline.ValueKit.Basic

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## What the first point computes and keeps -/

section
variable (x0 : Vec F S4x48x48x256 .f32) (x1 : Vec F S256x16 .f32) (x2 : Vec F S1x16 .f32) (x3 : Vec F S8x16 .f32)
  (x4 : Vec F S8x1 .f32) (x5 : Vec F S4x9216 .f32) (x6 : Vec F S1x9216 .f32) (x7 : Vec F S1x9216 .f32)

/-- The eight rows of linear heads, one column per pixel. -/
def heads : FVec F S8x9216 .f32 := k0_pay2 x0 x1 x2 x3 x4
/-- The two scale rows with their batch mean taken off. -/
def centred : FVec F S2x9216 .f32 := k0_pay3 x0 x1 x2 x3 x4 x5 x5
/-- The sum of squares of the centred rows, per row and batch. -/
def squares : FVec F S2x4 .f32 := k0_pay4 x0 x1 x2 x3 x4 x5 x5 x5
/-- The array of means the first point stores. -/
def meanVal : FVec F S4x48x48x2 .f32 := k0_pay13 (heads x0 x1 x2 x3 x4) x6 x7
/-- The array of determinants the first point stores. -/
def detVal : FVec F S4x2304 .f32 := k0_pay9 (centred x0 x1 x2 x3 x4 x5) (squares x0 x1 x2 x3 x4 x5) x5
/-- The table of pixel parameters the first point keeps in the scratch. -/
def parkVal : FVec F S9216x8 .f32 :=
  k0_pay15 (k0_pay7 (centred x0 x1 x2 x3 x4 x5) (squares x0 x1 x2 x3 x4 x5) x5)
    (k0_pay8 (centred x0 x1 x2 x3 x4 x5) (squares x0 x1 x2 x3 x4 x5) x5)
    (k0_pay10 (centred x0 x1 x2 x3 x4 x5) (squares x0 x1 x2 x3 x4 x5) x5)
    (k0_pay11 (heads x0 x1 x2 x3 x4) x6) (k0_pay12 (heads x0 x1 x2 x3 x4) x7)
    (k0_pay14 (centred x0 x1 x2 x3 x4 x5) (squares x0 x1 x2 x3 x4 x5) x5)
end

/-- The rows of the table the grid point `i` works on. -/
def slab (i : grid0.Coords) (S : Vec F S9216x8 .f32) : Vec F S384x8 .f32 :=
  View.ld S (Rect.unit (s := S9216x8) (k0_off1 i) S384x8.size (k0_off1_inb i))

/-- The block of weighted correlations from the rows `pk` of the table and the block `x8` of correlations. -/
def blockVal (pk : Vec F S384x8 .f32) (x8 : Vec F S1x8x48x48x48 .f32) : FVec F S1x8x48x48x48 .f32 :=
  k0_pay1 (k0_pay17 pk) (k0_pay18 pk) (k0_pay19 pk) x8

/-- The body's condition at grid point `i`. -/
abbrev isFirst (i : grid0.Coords) : Prop := k0_cond1 i = 1#1

/-- The body's condition holds at the first point only. -/
theorem isFirst_iff (t : Fin cfg0.N) : isFirst (grid0.coords t) ↔ t.val = 0 := by
  have ht : t.val < 24 := Nat.lt_of_lt_of_eq t.isLt N_0
  have e0 : (grid0.coords t 0).val = t.val / 6 % 4 := Pipeline.Grid.coords_val t 0 (by decide) rfl
  have e1 : (grid0.coords t 1).val = t.val / 1 % 6 := Pipeline.Grid.coords_val t 1 (by decide) rfl
  have : isFirst (grid0.coords t) ↔ t.val % 24 = 0 := by
    simp only [isFirst, k0_cond1, e0, e1]
    word_cmp
  rw [this, Nat.mod_eq_of_lt ht]

/-- The scratch operand. -/
abbrev scr : Memref sig .tc .vmem S9216x8 .f32 := Memref.whole cc0_scratch0

end Cert.KernelIdeal.Body

end
-- ==== Proof.BodyA.lean ====
/- The body at the first point. -/
module

public import proofs.«01_k».proof.Proof.BodyVals

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1000000 in
/-- The first point computes the means, the determinants and the table from the small windows, keeps the table in the
    scratch, and leaves in the output block `blockVal` of the table's rows for the point. -/
theorem run_first (c : Dev nD) (i : grid0.Coords) (arg2 : Memref sig .tc .vmem S4x48x48x256 .f32) (harg2 : arg2.IsWhole) (arg3 : Memref sig .tc .vmem S256x16 .f32) (harg3 : arg3.IsWhole) (arg4 : Memref sig .tc .vmem S1x16 .f32) (harg4 : arg4.IsWhole) (arg5 : Memref sig .tc .vmem S8x16 .f32) (harg5 : arg5.IsWhole) (arg6 : Memref sig .tc .vmem S8x1 .f32) (harg6 : arg6.IsWhole) (arg7 : Memref sig .tc .vmem S4x9216 .f32) (harg7 : arg7.IsWhole) (arg8 : Memref sig .tc .vmem S1x9216 .f32) (harg8 : arg8.IsWhole) (arg9 : Memref sig .tc .vmem S1x9216 .f32) (harg9 : arg9.IsWhole) (arg10 : Memref sig .tc .vmem S1x8x48x48x48 .f32) (harg10 : arg10.IsWhole) (arg11 : Memref sig .tc .vmem S1x8x48x48x48 .f32) (harg11 : arg11.IsWhole) (arg12 : Memref sig .tc .vmem S4x48x48x2 .f32) (harg12 : arg12.IsWhole) (arg13 : Memref sig .tc .vmem S4x2304 .f32) (harg13 : arg13.IsWhole) (arg14 : Memref sig .tc .vmem S9216x8 .f32) (harg14 : arg14.IsWhole) (hc0 : isFirst i)
    (x0 : Vec F S4x48x48x256 .f32) (x1 : Vec F S256x16 .f32) (x2 : Vec F S1x16 .f32) (x3 : Vec F S8x16 .f32) (x4 : Vec F S8x1 .f32) (x5 : Vec F S4x9216 .f32) (x6 : Vec F S1x9216 .f32) (x7 : Vec F S1x9216 .f32) (x8 : Vec F S1x8x48x48x48 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (blockVal (slab i (parkVal x0 x1 x2 x3 x4 x5 x6 x7)) x8) ∗ owns (c : Thread nD τ) arg12 fullShare (meanVal x0 x1 x2 x3 x4 x6 x7) ∗ owns (c : Thread nD τ) arg13 fullShare (detVal x0 x1 x2 x3 x4 x5) ∗ owns (c : Thread nD τ) arg14 fullShare (parkVal x0 x1 x2 x3 x4 x5 x6 x7)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K := by
  simp only [cc0__body_eq_skeleton]; unfold cc0__body_skel
  simp only [k0_part3_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  have e0 : View.ld x0 (Rect.unit (s := S4x48x48x256) ![0, 0, 0, 0] S4x48x48x256.size inb_S4x48x48x256_S4x48x48x256_0_0_0_0) = x0 := View.ld_unit_lit _ _ (by decide)
  have e1 : View.ld x1 (Rect.unit (s := S256x16) ![0, 0] S256x16.size inb_S256x16_S256x16_0_0) = x1 := View.ld_unit_lit _ _ (by decide)
  have e2 : View.ld x2 (Rect.unit (s := S1x16) ![0, 0] S1x16.size inb_S1x16_S1x16_0_0) = x2 := View.ld_unit_lit _ _ (by decide)
  have e3 : View.ld x3 (Rect.unit (s := S8x16) ![0, 0] S8x16.size inb_S8x16_S8x16_0_0) = x3 := View.ld_unit_lit _ _ (by decide)
  have e4 : View.ld x4 (Rect.unit (s := S8x1) ![0, 0] S8x1.size inb_S8x1_S8x1_0_0) = x4 := View.ld_unit_lit _ _ (by decide)
  have e5 : View.ld x5 (Rect.unit (s := S4x9216) ![0, 0] S4x9216.size inb_S4x9216_S4x9216_0_0) = x5 := View.ld_unit_lit _ _ (by decide)
  have e6 : View.ld x6 (Rect.unit (s := S1x9216) ![0, 0] S1x9216.size inb_S1x9216_S1x9216_0_0) = x6 := View.ld_unit_lit _ _ (by decide)
  have e7 : View.ld x7 (Rect.unit (s := S1x9216) ![0, 0] S1x9216.size inb_S1x9216_S1x9216_0_0) = x7 := View.ld_unit_lit _ _ (by decide)
  have e8 : View.ld x8 (Rect.unit (s := S1x8x48x48x48) ![0, 0, 0, 0, 0] S1x8x48x48x48.size inb_S1x8x48x48x48_S1x8x48x48x48_0_0_0_0_0) = x8 := View.ld_unit_lit _ _ (by decide)
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    refine (View.read_writes_full _ _ _ _ _).trans ?_
    sl_unfold_words
    simp only [View.readAt_eq_ld, harg2.read_unread, harg3.read_unread, harg4.read_unread, harg5.read_unread, harg6.read_unread, harg7.read_unread, harg8.read_unread, harg9.read_unread, harg10.read_unread, e0, e1, e2, e3, e4, e5, e6, e7, e8]
    have eP : ∀ w : FVec F S9216x8 .f32, View.read (Elt F) arg14.view (arg14.view.writes (Elt F) arg14.view.junk
        [⟨Rect.unit (s := S9216x8) ![0, 0] S9216x8.size inb_S9216x8_S9216x8_0_0, w⟩]) = w :=
      fun w => View.read_writes_full _ _ _ _ _
    simp only [eP]
    rfl
  isplitl [H10]
  · iexists _; isplitr; swap; · iexact H10
    ipureintro
    refine (View.read_writes_full _ _ _ _ _).trans ?_
    sl_unfold_words
    simp only [View.readAt_eq_ld, harg2.read_unread, harg3.read_unread, harg4.read_unread, harg5.read_unread, harg6.read_unread, harg7.read_unread, harg8.read_unread, harg9.read_unread, harg10.read_unread, e0, e1, e2, e3, e4, e5, e6, e7, e8]
    rfl
  isplitl [H11]
  · iexists _; isplitr; swap; · iexact H11
    ipureintro
    refine (View.read_writes_full _ _ _ _ _).trans ?_
    sl_unfold_words
    simp only [View.readAt_eq_ld, harg2.read_unread, harg3.read_unread, harg4.read_unread, harg5.read_unread, harg6.read_unread, harg7.read_unread, harg8.read_unread, harg9.read_unread, harg10.read_unread, e0, e1, e2, e3, e4, e5, e6, e7, e8]
    rfl
  iexists _; isplitr; swap; · iexact HS
  ipureintro
  refine (View.read_writes_full _ _ _ _ _).trans ?_
  sl_unfold_words
  simp only [View.readAt_eq_ld, harg2.read_unread, harg3.read_unread, harg4.read_unread, harg5.read_unread, harg6.read_unread, harg7.read_unread, harg8.read_unread, harg9.read_unread, harg10.read_unread, e0, e1, e2, e3, e4, e5, e6, e7, e8]
  rfl

end Cert.KernelIdeal.Body

end
-- ==== Proof.BodyB.lean ====
/- The body at a point other than the first. -/
module

public import proofs.«01_k».proof.Proof.BodyVals

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1000000 in
/-- A point that is not the first touches the correlation block, the output block and the scratch only: it leaves in
    the output block `blockVal` of the scratch's rows for the point. -/
theorem run_rest (c : Dev nD) (i : grid0.Coords) (arg2 : Memref sig .tc .vmem S4x48x48x256 .f32) (harg2 : arg2.IsWhole) (arg3 : Memref sig .tc .vmem S256x16 .f32) (harg3 : arg3.IsWhole) (arg4 : Memref sig .tc .vmem S1x16 .f32) (harg4 : arg4.IsWhole) (arg5 : Memref sig .tc .vmem S8x16 .f32) (harg5 : arg5.IsWhole) (arg6 : Memref sig .tc .vmem S8x1 .f32) (harg6 : arg6.IsWhole) (arg7 : Memref sig .tc .vmem S4x9216 .f32) (harg7 : arg7.IsWhole) (arg8 : Memref sig .tc .vmem S1x9216 .f32) (harg8 : arg8.IsWhole) (arg9 : Memref sig .tc .vmem S1x9216 .f32) (harg9 : arg9.IsWhole) (arg10 : Memref sig .tc .vmem S1x8x48x48x48 .f32) (harg10 : arg10.IsWhole) (arg11 : Memref sig .tc .vmem S1x8x48x48x48 .f32) (harg11 : arg11.IsWhole) (arg12 : Memref sig .tc .vmem S4x48x48x2 .f32) (harg12 : arg12.IsWhole) (arg13 : Memref sig .tc .vmem S4x2304 .f32) (harg13 : arg13.IsWhole) (arg14 : Memref sig .tc .vmem S9216x8 .f32) (harg14 : arg14.IsWhole) (hc0 : ¬ isFirst i)
    (x8 : Vec F S1x8x48x48x48 .f32) (S : Vec F S9216x8 .f32) (E : Set ℕ) (K : PUnit → sProp 𝕄) :
    iprop(owns (c : Thread nD τ) arg10 fullShare x8 ∗ (∃ d, owns (c : Thread nD τ) arg11 fullShare d) ∗ owns (c : Thread nD τ) arg14 fullShare S
        ∗ (iprop(owns (c : Thread nD τ) arg10 fullShare x8 ∗ owns (c : Thread nD τ) arg11 fullShare (blockVal (slab i S) x8) ∗ owns (c : Thread nD τ) arg14 fullShare S) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K := by
  simp only [cc0__body_eq_skeleton]; unfold cc0__body_skel
  simp only [k0_part3_eq_skeleton]
  unfold owns
  iintro ⟨⟨%f8, %hf8, H8⟩, ⟨%d9, %f9, -, H9⟩, ⟨%fs, %hfs, HS⟩, Hk⟩
  obtain rfl := harg10.eq_unread hf8; obtain rfl := harg14.eq_unread hfs
  sl_exec (disch := first | sl_exact hc0)
  sl_step
  iapply Hk
  isplitl [H8]
  · iexists _; isplitr; · ipureintro; exact harg10.read_unread _
    iexact H8
  isplitl [H9]
  · iexists _; isplitr; swap; · iexact H9
    ipureintro
    refine (View.read_writes_full _ _ _ _ _).trans ?_
    sl_unfold_words
    simp only [View.readAt_eq_ld, harg10.read_unread, harg14.read_unread]
    rw [View.ld_unit_lit _ x8 (by decide)]
    rfl
  iexists _; isplitr; · ipureintro; exact harg14.read_unread _
  iexact HS

end Cert.KernelIdeal.Body

end
-- ==== Proof.KRun.lean ====
/- The pipeline's proof data (what each window's buffer and the scratch hold at each grid point), the body obligation and
   the run of the kernel. -/
module

public import proofs.«01_k».proof.Proof.BodyA
public import proofs.«01_k».proof.Proof.BodyB

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the buffers hold -/

/-- The first grid point. -/
def t0 : Fin cfg0.N := ⟨0, by rw [show cfg0.N = 24 from N_0]; decide⟩

/-- The table the first point keeps. -/
def park (c : Dev nD) : FVec F S9216x8 .f32 :=
  parkVal (iblk m c 0 t0) (iblk m c 1 t0) (iblk m c 2 t0) (iblk m c 3 t0) (iblk m c 4 t0) (iblk m c 5 t0) (iblk m c 6 t0) (iblk m c 7 t0)
/-- The means the first point stores. -/
def means (c : Dev nD) : FVec F S4x48x48x2 .f32 :=
  meanVal (iblk m c 0 t0) (iblk m c 1 t0) (iblk m c 2 t0) (iblk m c 3 t0) (iblk m c 4 t0) (iblk m c 6 t0) (iblk m c 7 t0)
/-- The determinants the first point stores. -/
def dets (c : Dev nD) : FVec F S4x2304 .f32 :=
  detVal (iblk m c 0 t0) (iblk m c 1 t0) (iblk m c 2 t0) (iblk m c 3 t0) (iblk m c 4 t0) (iblk m c 5 t0)
/-- The block of the output that point `t` stores. -/
def outBlock (c : Dev nD) (t : Fin cfg0.N) : FVec F S1x8x48x48x48 .f32 :=
  blockVal (slab (grid0.coords t) (park m c)) (iblk m c 8 t)

/-- Between points: before the first point the scratch holds anything, after it the table. -/
def inv (c : Dev nD) (n : ℕ) : sProp 𝕄 :=
  if n = 0 then Pipeline.ΦA spec0 c
  else iprop(owns (c : Thread nD τ) scr fullShare (park m c) ∗ ∃ r, prngReg c r)

/-- The scratch and the generator register as the region hands them over. -/
theorem start_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; rfl

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock m c t
    | ⟨10, _⟩ => means m c
    | ⟨11, _⟩ => dets m c
  Φ t := inv m c t.val
  q _ := fullShare
  owed _ := 0

/-- The invariant is `inv`. -/
theorem inv_eq (c : Dev nD) (t : Fin (cfg0.N + 1)) : (dats m 0 c).Φ t = inv m c t.val := by dsimp only [dats]
/-- Before the first point. -/
theorem inv_zero (c : Dev nD) (t : Fin (cfg0.N + 1)) (h : t.val = 0) : (dats m 0 c).Φ t = Pipeline.ΦA spec0 c := by
  rw [inv_eq]; exact if_pos h
/-- After the first point. -/
theorem inv_pos (c : Dev nD) (t : Fin (cfg0.N + 1)) (h : t.val ≠ 0) :
    (dats m 0 c).Φ t = iprop(owns (c : Thread nD τ) scr fullShare (park m c) ∗ ∃ r, prngReg c r) := by
  rw [inv_eq]; exact if_neg h

/-- The arrays are what the region finds. -/
theorem dats_A (c : Dev nD) (w : Fin cfg0.W) : (dats m 0 c).A w = V m c (Pipeline.arrRef spec0 w) := by
  dsimp only [dats]

/-- Window 0 is left at its block. -/
theorem left_0 (c : Dev nD) (t : Fin cfg0.N) : (dats m 0 c).after 0 t = iblk m c 0 t := by dsimp only [dats]
/-- Window 1 is left at its block. -/
theorem left_1 (c : Dev nD) (t : Fin cfg0.N) : (dats m 0 c).after 1 t = iblk m c 1 t := by dsimp only [dats]
/-- Window 2 is left at its block. -/
theorem left_2 (c : Dev nD) (t : Fin cfg0.N) : (dats m 0 c).after 2 t = iblk m c 2 t := by dsimp only [dats]
/-- Window 3 is left at its block. -/
theorem left_3 (c : Dev nD) (t : Fin cfg0.N) : (dats m 0 c).after 3 t = iblk m c 3 t := by dsimp only [dats]
/-- Window 4 is left at its block. -/
theorem left_4 (c : Dev nD) (t : Fin cfg0.N) : (dats m 0 c).after 4 t = iblk m c 4 t := by dsimp only [dats]
/-- Window 5 is left at its block. -/
theorem left_5 (c : Dev nD) (t : Fin cfg0.N) : (dats m 0 c).after 5 t = iblk m c 5 t := by dsimp only [dats]
/-- Window 6 is left at its block. -/
theorem left_6 (c : Dev nD) (t : Fin cfg0.N) : (dats m 0 c).after 6 t = iblk m c 6 t := by dsimp only [dats]
/-- Window 7 is left at its block. -/
theorem left_7 (c : Dev nD) (t : Fin cfg0.N) : (dats m 0 c).after 7 t = iblk m c 7 t := by dsimp only [dats]
/-- Window 8 is left at its block. -/
theorem left_8 (c : Dev nD) (t : Fin cfg0.N) : (dats m 0 c).after 8 t = iblk m c 8 t := by dsimp only [dats]
/-- What output window 9 is left at. -/
theorem left_9 (c : Dev nD) (t : Fin cfg0.N) : (dats m 0 c).after 9 t = outBlock m c t := by dsimp only [dats]
/-- What output window 10 is left at. -/
theorem left_10 (c : Dev nD) (t : Fin cfg0.N) : (dats m 0 c).after 10 t = means m c := by dsimp only [dats]
/-- What output window 11 is left at. -/
theorem left_11 (c : Dev nD) (t : Fin cfg0.N) : (dats m 0 c).after 11 t = dets m c := by dsimp only [dats]
/-- Window 0 is found at its block. -/
theorem found_0 (c : Dev nD) (t : Fin cfg0.N) (d) : (dats m 0 c).before 0 t d = iblk m c 0 t :=
  before0_0_of m (dats m 0 c) (dats_A m c 0) (left_0 m c) t d
/-- Window 1 is found at its block. -/
theorem found_1 (c : Dev nD) (t : Fin cfg0.N) (d) : (dats m 0 c).before 1 t d = iblk m c 1 t :=
  before0_1_of m (dats m 0 c) (dats_A m c 1) (left_1 m c) t d
/-- Window 2 is found at its block. -/
theorem found_2 (c : Dev nD) (t : Fin cfg0.N) (d) : (dats m 0 c).before 2 t d = iblk m c 2 t :=
  before0_2_of m (dats m 0 c) (dats_A m c 2) (left_2 m c) t d
/-- Window 3 is found at its block. -/
theorem found_3 (c : Dev nD) (t : Fin cfg0.N) (d) : (dats m 0 c).before 3 t d = iblk m c 3 t :=
  before0_3_of m (dats m 0 c) (dats_A m c 3) (left_3 m c) t d
/-- Window 4 is found at its block. -/
theorem found_4 (c : Dev nD) (t : Fin cfg0.N) (d) : (dats m 0 c).before 4 t d = iblk m c 4 t :=
  before0_4_of m (dats m 0 c) (dats_A m c 4) (left_4 m c) t d
/-- Window 5 is found at its block. -/
theorem found_5 (c : Dev nD) (t : Fin cfg0.N) (d) : (dats m 0 c).before 5 t d = iblk m c 5 t :=
  before0_5_of m (dats m 0 c) (dats_A m c 5) (left_5 m c) t d
/-- Window 6 is found at its block. -/
theorem found_6 (c : Dev nD) (t : Fin cfg0.N) (d) : (dats m 0 c).before 6 t d = iblk m c 6 t :=
  before0_6_of m (dats m 0 c) (dats_A m c 6) (left_6 m c) t d
/-- Window 7 is found at its block. -/
theorem found_7 (c : Dev nD) (t : Fin cfg0.N) (d) : (dats m 0 c).before 7 t d = iblk m c 7 t :=
  before0_7_of m (dats m 0 c) (dats_A m c 7) (left_7 m c) t d
/-- Window 8 is found at its block. -/
theorem found_8 (c : Dev nD) (t : Fin cfg0.N) (d) : (dats m 0 c).before 8 t d = iblk m c 8 t :=
  before0_8_of m (dats m 0 c) (dats_A m c 8) (left_8 m c) t d

/-- Window 10 is idle at every point but the first. -/
theorem idle_10 (t : Fin cfg0.N) (h : t.val ≠ 0) : cfg0.idle 10 (grid0.coords t) = true := by
  have hn : ¬ isFirst (grid0.coords t) := fun hf => h ((isFirst_iff t).mp hf)
  show (!(k0_cond1 (grid0.coords t) == 1#1)) = true
  simpa using hn
/-- Window 10 is live at the first point. -/
theorem live_10 (t : Fin cfg0.N) (h : t.val = 0) : cfg0.idle 10 (grid0.coords t) = false := by
  have hn : isFirst (grid0.coords t) := (isFirst_iff t).mpr h
  show (!(k0_cond1 (grid0.coords t) == 1#1)) = false
  simpa using hn
/-- After the first point window 10 is found at what the first point left in it. -/
theorem found_10 (c : Dev nD) (n : ℕ) : ∀ (t : Fin cfg0.N), t.val = n → t.val ≠ 0 → ∀ d, (dats m 0 c).before 10 t d = means m c := by
  induction n with
  | zero => intro t h h0; exact absurd h h0
  | succ n ih =>
    intro t h h0 d
    have hN : t.val < 24 := lt_of_lt_of_eq t.isLt (show cfg0.N = 24 from N_0)
    rw [Dat.before_of_pos _ _ _ h0 rfl]
    rw [if_neg]
    swap
    · intro hf
      have := (flush0_10 _).mp hf
      simp only at this
      omega
    by_cases hp : t.val - 1 = 0
    · unfold Dat.left
      rw [live_10 ⟨t.val - 1, _⟩ hp]
      exact left_10 m c _
    · unfold Dat.left
      rw [idle_10 ⟨t.val - 1, _⟩ hp]
      exact ih ⟨t.val - 1, _⟩ (by simp only; omega) hp d

/-- Window 11 is idle at every point but the first. -/
theorem idle_11 (t : Fin cfg0.N) (h : t.val ≠ 0) : cfg0.idle 11 (grid0.coords t) = true := by
  have hn : ¬ isFirst (grid0.coords t) := fun hf => h ((isFirst_iff t).mp hf)
  show (!(k0_cond1 (grid0.coords t) == 1#1)) = true
  simpa using hn
/-- Window 11 is live at the first point. -/
theorem live_11 (t : Fin cfg0.N) (h : t.val = 0) : cfg0.idle 11 (grid0.coords t) = false := by
  have hn : isFirst (grid0.coords t) := (isFirst_iff t).mpr h
  show (!(k0_cond1 (grid0.coords t) == 1#1)) = false
  simpa using hn
/-- After the first point window 11 is found at what the first point left in it. -/
theorem found_11 (c : Dev nD) (n : ℕ) : ∀ (t : Fin cfg0.N), t.val = n → t.val ≠ 0 → ∀ d, (dats m 0 c).before 11 t d = dets m c := by
  induction n with
  | zero => intro t h h0; exact absurd h h0
  | succ n ih =>
    intro t h h0 d
    have hN : t.val < 24 := lt_of_lt_of_eq t.isLt (show cfg0.N = 24 from N_0)
    rw [Dat.before_of_pos _ _ _ h0 rfl]
    rw [if_neg]
    swap
    · intro hf
      have := (flush0_11 _).mp hf
      simp only at this
      omega
    by_cases hp : t.val - 1 = 0
    · unfold Dat.left
      rw [live_11 ⟨t.val - 1, _⟩ hp]
      exact left_11 m c _
    · unfold Dat.left
      rw [idle_11 ⟨t.val - 1, _⟩ hp]
      exact ih ⟨t.val - 1, _⟩ (by simp only; omega) hp d

/-! ## The body obligation -/

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))
/-- What the body returns at point `t`. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 2400000 in
/-- The body at the first point. -/
theorem sound_first (c : Dev nD) (t : Fin cfg0.N) (h0 : t.val = 0) :
    pre m c t ⊢ wp frame (wpE (defs₀ (F := F)) Variants.none c none) Set.univ (bodyAt0 t) (fun _ => post m c t) := by
  unfold pre post bodyAt0
  simp only [found_0, found_1, found_2, found_3, found_4, found_5, found_6, found_7, found_8]
  rw [show (dats m 0 c).owesAt () t.succ = (dats m 0 c).owesAt () t.castSucc from rfl]
  rw [inv_zero m c t.castSucc h0, start_eq]
  rw [inv_pos m c t.succ (by simp)]
  rw [show (dats m 0 c).leavesExact 0 t = owns (c : Thread nD τ) (st0_0 t) fullShare ((dats m 0 c).after 0 t) from rfl, left_0]
  rw [show (dats m 0 c).leavesExact 1 t = owns (c : Thread nD τ) (st0_1 t) fullShare ((dats m 0 c).after 1 t) from rfl, left_1]
  rw [show (dats m 0 c).leavesExact 2 t = owns (c : Thread nD τ) (st0_2 t) fullShare ((dats m 0 c).after 2 t) from rfl, left_2]
  rw [show (dats m 0 c).leavesExact 3 t = owns (c : Thread nD τ) (st0_3 t) fullShare ((dats m 0 c).after 3 t) from rfl, left_3]
  rw [show (dats m 0 c).leavesExact 4 t = owns (c : Thread nD τ) (st0_4 t) fullShare ((dats m 0 c).after 4 t) from rfl, left_4]
  rw [show (dats m 0 c).leavesExact 5 t = owns (c : Thread nD τ) (st0_5 t) fullShare ((dats m 0 c).after 5 t) from rfl, left_5]
  rw [show (dats m 0 c).leavesExact 6 t = owns (c : Thread nD τ) (st0_6 t) fullShare ((dats m 0 c).after 6 t) from rfl, left_6]
  rw [show (dats m 0 c).leavesExact 7 t = owns (c : Thread nD τ) (st0_7 t) fullShare ((dats m 0 c).after 7 t) from rfl, left_7]
  rw [show (dats m 0 c).leavesExact 8 t = owns (c : Thread nD τ) (st0_8 t) fullShare ((dats m 0 c).after 8 t) from rfl, left_8]
  rw [show (dats m 0 c).leavesExact 9 t = owns (c : Thread nD τ) (st0_9 t) fullShare ((dats m 0 c).after 9 t) from rfl, left_9]
  rw [show (dats m 0 c).leavesExact 10 t = owns (c : Thread nD τ) (st0_10 t) fullShare ((dats m 0 c).after 10 t) from by
    unfold Dat.leavesExact; rw [live_10 t h0], left_10]
  rw [show (dats m 0 c).leavesExact 11 t = owns (c : Thread nD τ) (st0_11 t) fullShare ((dats m 0 c).after 11 t) from by
    unfold Dat.leavesExact; rw [live_11 t h0], left_11]
  obtain rfl : t = t0 := Fin.ext h0
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_first c (grid0.coords t0) _ _ _ _ _ _ _ _ _ _ _ _ _ _ _ _ _ _ _ _ _ _ _ _ _ _ ((isFirst_iff t0).mpr h0) (iblk m c 0 t0) (iblk m c 1 t0) (iblk m c 2 t0) (iblk m c 3 t0) (iblk m c 4 t0) (iblk m c 5 t0) (iblk m c 6 t0) (iblk m c 7 t0) (iblk m c 8 t0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [HS]; · iexact HS
  iintro ⟨H0, H1, H2, H3, H4, H5, H6, H7, H8, H9, H10, H11, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 2400000 in
/-- The body at a later point. -/
theorem sound_rest (c : Dev nD) (t : Fin cfg0.N) (h0 : t.val ≠ 0) :
    pre m c t ⊢ wp frame (wpE (defs₀ (F := F)) Variants.none c none) Set.univ (bodyAt0 t) (fun _ => post m c t) := by
  unfold pre post bodyAt0
  simp only [found_0, found_1, found_2, found_3, found_4, found_5, found_6, found_7, found_8, found_10 m c t.val t rfl h0, found_11 m c t.val t rfl h0]
  rw [show (dats m 0 c).owesAt () t.succ = (dats m 0 c).owesAt () t.castSucc from rfl]
  rw [inv_pos m c t.castSucc h0]
  rw [inv_pos m c t.succ (by simp)]
  rw [show (dats m 0 c).leavesExact 0 t = owns (c : Thread nD τ) (st0_0 t) fullShare ((dats m 0 c).after 0 t) from rfl, left_0]
  rw [show (dats m 0 c).leavesExact 1 t = owns (c : Thread nD τ) (st0_1 t) fullShare ((dats m 0 c).after 1 t) from rfl, left_1]
  rw [show (dats m 0 c).leavesExact 2 t = owns (c : Thread nD τ) (st0_2 t) fullShare ((dats m 0 c).after 2 t) from rfl, left_2]
  rw [show (dats m 0 c).leavesExact 3 t = owns (c : Thread nD τ) (st0_3 t) fullShare ((dats m 0 c).after 3 t) from rfl, left_3]
  rw [show (dats m 0 c).leavesExact 4 t = owns (c : Thread nD τ) (st0_4 t) fullShare ((dats m 0 c).after 4 t) from rfl, left_4]
  rw [show (dats m 0 c).leavesExact 5 t = owns (c : Thread nD τ) (st0_5 t) fullShare ((dats m 0 c).after 5 t) from rfl, left_5]
  rw [show (dats m 0 c).leavesExact 6 t = owns (c : Thread nD τ) (st0_6 t) fullShare ((dats m 0 c).after 6 t) from rfl, left_6]
  rw [show (dats m 0 c).leavesExact 7 t = owns (c : Thread nD τ) (st0_7 t) fullShare ((dats m 0 c).after 7 t) from rfl, left_7]
  rw [show (dats m 0 c).leavesExact 8 t = owns (c : Thread nD τ) (st0_8 t) fullShare ((dats m 0 c).after 8 t) from rfl, left_8]
  rw [show (dats m 0 c).leavesExact 9 t = owns (c : Thread nD τ) (st0_9 t) fullShare ((dats m 0 c).after 9 t) from rfl, left_9]
  have e10 : owns (c : Thread nD τ) (st0_10 t) fullShare (means m c) ⊢ (dats m 0 c).leavesExact 10 t := by
    unfold Dat.leavesExact; rw [idle_10 t h0]
    cases hf : (cfg0.win 10).flush t
    · iintro H; iexists (means m c); rw [found_10 m c t.val t rfl h0]; iexact H
    · exact .rfl
  have e11 : owns (c : Thread nD τ) (st0_11 t) fullShare (dets m c) ⊢ (dats m 0 c).leavesExact 11 t := by
    unfold Dat.leavesExact; rw [idle_11 t h0]
    cases hf : (cfg0.win 11).flush t
    · iintro H; iexists (dets m c); rw [found_11 m c t.val t rfl h0]; iexact H
    · exact .rfl
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_rest c (grid0.coords t) _ _ _ _ _ _ _ _ _ _ _ _ _ _ _ _ _ _ _ _ _ _ _ _ _ _ (fun h => h0 ((isFirst_iff t).mp h)) (iblk m c 8 t) (park m c) Set.univ _)
  isplitl [H8]; · iexact H8
  isplitl [H9]; · iexists _; iexact H9
  isplitl [HS]; · iexact HS
  iintro ⟨H8, H9, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iapply e10; iexact H10
  iapply e11; iexact H11

/-- The body table's row at point `t` is the body there. -/
theorem row_body (t : Fin cfg0.N) :
    defs₀ (F := F) .tc cfg0.body (cfg0.bodyArgs t (cfg0.slots t)) = bodyAt0 t := by
  unfold defs₀; rw [Defs.onTc_tc]

/-- The body obligation. -/
theorem obligation (c : Dev nD) : BodyObligation (dats (F := F) m 0 c) (defs₀ (F := F)) Variants.none () Set.univ := fun t => by
  rw [bigSep_W0, bigSep_W0, row_body]
  refine triple_restated (W := wp frame (wpE (defs₀ (F := F)) Variants.none c none) Set.univ (bodyAt0 t)) (P := pre m c t) (Q := fun _ => post m c t) ?_ rfl .rfl fun _ => .rfl
  by_cases h0 : t.val = 0
  · exact sound_first m c t h0
  · exact sound_rest m c t h0

/-! ## The run -/

set_option backward.isDefEq.respectTransparency.types false in
/-- Every execution of the kernel ends with each output array at what the proof data say, and every counter at zero. -/
theorem run_all : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m)
    (hin := fun c => by
      exact (Entails.of_eq (inv_zero m c 0 rfl).symm))
    (hout := fun c => by
      show (dats m 0 c).Φ (Fin.last cfg0.N) ⊢ (Pipeline.ΦA spec0 c : sProp 𝕄)
      rw [inv_pos m c (Fin.last cfg0.N) (by rw [Fin.val_last, show cfg0.N = 24 from N_0]; decide), start_eq]
      iintro ⟨HS, Hg⟩
      isplitl [HS]
      · iexists _; iexact HS
      iexact Hg)

/-- The frame of the kernel: its arguments end unchanged, its counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (dats_A m) ((θ_run defs _ _).mono (fun _ h => h.1) (run_all m ρ)))
    ((θ_run defs _ _).mono (fun _ h => h.2) (run_all m ρ))

end Cert.KernelIdeal.Body

end
-- ==== Proof.Frames.lean ====
/- The frame claims of the three programs and the claim that the kernel's idealization preserves it. -/
module

public import proofs.«01_k».proof.Defs
public import proofs.«01_k».proof.Proof.KRun
public import proofs.«01_k».proof.Proof.WordKRun
public import proofs.«01_k».proof.Proof.Gen.ReferenceIdeal.Run
public import Idealize.ShloMosaic.Lib.Quiescent

@[expose] public section

noncomputable section

namespace Cert.Proof

open Idealize.ShloMosaic Idealize.SL.Sem

/-- The kernel at machine words leaves its arguments alone and its counters at zero. -/
theorem frame_p : Cert.quiescent_Kernel := fun m ρ _ => Cert.Kernel.Body.frame_all m ρ
/-- The same of the idealized kernel. -/
theorem frame_pi : Cert.quiescent_KernelIdeal := fun m ρ _ => Cert.KernelIdeal.Body.frame_all m ρ
set_option maxRecDepth 16384 in
/-- The same of the reference. -/
theorem frame_ri : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)
/-- The two named constants have, at extended reals, the values the idealization gives them. -/
theorem preserves : Cert.preserves_Kernel_KernelIdeal :=
  ⟨IdealRules.named_const.statement Cert.KernelIdeal.κ "inv_count" .f32 0x39638E39#32 ((1 / 4608 : ℝ) : EReal) rfl,
    IdealRules.named_const.statement Cert.KernelIdeal.κ "inv_six28" .f32 0x3E230EAD#32 ((25 / 157 : ℝ) : EReal) rfl⟩

end Cert.Proof

end
-- ==== Proof.Spec.lean ====
/- The mathematics of the problem over extended reals, one batch entry and one pixel at a time: the normalised
   variances, the Gaussian weight of one target, and the forms in which the kernel computes them. -/
module

public import Idealize.ShloMosaic.Lib.Pointwise
public import Idealize.ShloMosaic.Lib.IdealHost

@[expose] public section

set_option maxRecDepth 16384

noncomputable section

namespace Cert.Spec

open Idealize.ShloMosaic

/-! ## The words that stand for numbers -/

/-- The number of entries of a batch entry. -/
def count : EReal := Ideal.ofBits .f32 0x45900000#32
/-- What is added to a variance. -/
def eps : EReal := Ideal.ofBits .f32 0x3727C5AC#32
/-- The span of a variance. -/
def five : EReal := Ideal.ofBits .f32 0x40A00000#32
/-- The least variance. -/
def least : EReal := Ideal.ofBits .f32 0x3D4CCCCD#32
/-- The factor of the exponent. -/
def half : EReal := Ideal.ofBits .f32 0xBF000000#32
/-- The radius of the window. -/
def radius : EReal := Ideal.ofBits .f32 0x40C00000#32
/-- The numerator of the normalising factor. -/
def top157 : EReal := Ideal.ofBits .f32 0x431D0000#32
/-- The denominator of the normalising factor. -/
def bot25 : EReal := Ideal.ofBits .f32 0x41C80000#32

theorem count_eq : count = ((4608 : ℝ) : EReal) := by
  simp [count, Ideal.ofBits, Ideal.ieee, -EReal.coe_mul]; norm_num
theorem eps_eq : ∃ e : ℝ, 0 < e ∧ eps = (e : EReal) := by
  refine ⟨_, ?_, by simp [eps, Ideal.ofBits, Ideal.ieee, -EReal.coe_mul]; rfl⟩
  positivity
theorem five_eq : five = ((5 : ℝ) : EReal) := by
  simp [five, Ideal.ofBits, Ideal.ieee, -EReal.coe_mul]; norm_num
theorem least_eq : ∃ e : ℝ, 0 < e ∧ least = (e : EReal) := by
  refine ⟨_, ?_, by simp [least, Ideal.ofBits, Ideal.ieee, -EReal.coe_mul]; rfl⟩
  positivity
theorem half_eq : half = ((-(1 / 2) : ℝ) : EReal) := by
  simp [half, Ideal.ofBits, Ideal.ieee, -EReal.coe_mul]; norm_num
theorem top157_eq : top157 = ((157 : ℝ) : EReal) := by
  simp [top157, Ideal.ofBits, Ideal.ieee, -EReal.coe_mul]; norm_num
theorem bot25_eq : bot25 = ((25 : ℝ) : EReal) := by
  simp [bot25, Ideal.ofBits, Ideal.ieee, -EReal.coe_mul]; norm_num

/-! ## Pixels and the linear heads -/

/-- The row of a pixel. -/
def row (p : Fin 2304) : Fin 48 := ⟨p.val / 48, by omega⟩
/-- The column of a pixel. -/
def col (p : Fin 2304) : Fin 48 := ⟨p.val % 48, by omega⟩
/-- The pixel at a row and a column. -/
def at_ (i j : Fin 48) : Fin 2304 := ⟨i.val * 48 + j.val, by omega⟩
/-- The place of a pixel of a batch entry when all batch entries stand in one row. -/
def pix (q : Fin 4) (p : Fin 2304) : Fin 9216 := ⟨q.val * 2304 + p.val, by omega⟩
/-- An index of a target along an axis, as a number. -/
def num (u : Fin 48) : EReal := FloatOps.sitofp (F := Ideal) .f32 (BitVec.ofNat 32 u.val)

theorem row_at (i j : Fin 48) : row (at_ i j) = i := Fin.ext (by show (i.val * 48 + j.val) / 48 = i.val; omega)
theorem col_at (i j : Fin 48) : col (at_ i j) = j := Fin.ext (by show (i.val * 48 + j.val) % 48 = j.val; omega)

/-- One linear head of the hidden features of a pixel. -/
def head (X : FVec Ideal ⟨4, ![4, 48, 48, 256]⟩ .f32) (W : FVec Ideal ⟨2, ![16, 256]⟩ .f32) (U : FVec Ideal ⟨1, ![16]⟩ .f32)
    (A : FVec Ideal ⟨2, ![2, 16]⟩ .f32) (B : FVec Ideal ⟨1, ![2]⟩ .f32) (q : Fin 4) (p : Fin 2304) (o : Fin 2) : EReal :=
  (∑ k : Fin 16, Ideal.tanh ((∑ l : Fin 256, X (ix4 q (row p) (col p) l) * W (ix2 k l)) + U (ix1 k)) * A (ix2 o k)) + B (ix1 o)

/-! ## One batch entry -/

section
variable (z : Fin 2304 → Fin 2 → EReal)

/-- The mean of a batch entry. -/
def mean : EReal := Ideal.div (∑ p, ∑ o, z p o) count
/-- The variance of a batch entry. -/
def var : EReal := Ideal.div (∑ p, ∑ o, (z p o - mean z) * (z p o - mean z)) count
/-- An entry normalised, squashed and scaled: one variance of one pixel. -/
def scale (p : Fin 2304) (o : Fin 2) : EReal :=
  Ideal.div 1 (1 + Ideal.exp (-Ideal.div (z p o - mean z) (Ideal.sqrt (var z + eps)))) * five + least
/-- The product of the two variances of a pixel. -/
def det (p : Fin 2304) : EReal := scale z p 0 * scale z p 1

/-- Dividing by the number of entries is multiplying by its inverse. -/
theorem div_count (x : EReal) : Ideal.div x count = x * ((1 / 4608 : ℝ) : EReal) := by
  rw [count_eq, Ideal.div_coe (by norm_num)]

/-- A square is not negative. -/
theorem sq_nonneg' (x : EReal) : 0 ≤ x * x := by
  induction x with
  | bot => simp
  | top => simp
  | coe r => rw [← EReal.coe_mul]; exact_mod_cast mul_self_nonneg r

/-- The variance is not negative. -/
theorem var_nonneg : 0 ≤ var z := by
  rw [var, div_count]
  exact mul_nonneg (Finset.sum_nonneg fun p _ => Finset.sum_nonneg fun o _ => sq_nonneg' _)
    (by exact_mod_cast (by norm_num : (0 : ℝ) ≤ 1 / 4608))

/-- Dividing by the root of a variance is multiplying by its reciprocal root. -/
theorem div_sqrt (d v : EReal) (hv : 0 ≤ v) : Ideal.div d (Ideal.sqrt (v + eps)) = d * Ideal.rsqrt (v + eps) := by
  obtain ⟨e, he, hE⟩ := eps_eq
  rw [hE]
  induction v with
  | bot => simp at hv
  | top =>
    rw [EReal.top_add_coe, Ideal.sqrt_top, Ideal.rsqrt_top, Ideal.div, if_neg (by simp)]
    simp
  | coe r =>
    have hr : (0 : ℝ) ≤ r := by exact_mod_cast hv
    have hp : 0 < r + e := by linarith
    rw [← EReal.coe_add, Ideal.sqrt_coe, Ideal.rsqrt_coe, if_neg (by linarith), if_neg (by linarith), if_neg hp.ne',
      Ideal.div_coe (Real.sqrt_pos.mpr hp).ne', one_div]

/-- The kernel's way to a variance: it multiplies by reciprocals and sums the two rows one after the other. -/
theorem scale_eq (p : Fin 2304) (o : Fin 2) (M V : EReal)
    (hM : M = (∑ o', ∑ p', z p' o') * ((1 / 4608 : ℝ) : EReal))
    (hV : V = (∑ o', ∑ p', (z p' o' - M) * (z p' o' - M)) * ((1 / 4608 : ℝ) : EReal)) :
    Ideal.logistic ((z p o - M) * Ideal.rsqrt (V + eps)) * five + least = scale z p o := by
  have e1 : M = mean z := by rw [hM, mean, div_count, Finset.sum_comm]
  have e2 : V = var z := by rw [hV, var, div_count, Finset.sum_comm, e1]
  rw [e1, e2, ← div_sqrt _ _ (var_nonneg z)]
  rfl

/-- A variance is a positive number. -/
theorem scale_pos (p : Fin 2304) (o : Fin 2) : ∃ r : ℝ, 0 < r ∧ scale z p o = (r : EReal) := by
  obtain ⟨e, he, hE⟩ := least_eq
  have key : ∀ x : EReal, ∃ r : ℝ, 0 ≤ r ∧ Ideal.logistic x = (r : EReal) := by
    intro x
    induction x with
    | bot => exact ⟨0, le_rfl, by simp⟩
    | top => exact ⟨1, zero_le_one, by simp⟩
    | coe r => exact ⟨_, by positivity, Ideal.logistic_coe r⟩
  obtain ⟨r, hr, hL⟩ := key (Ideal.div (z p o - mean z) (Ideal.sqrt (var z + eps)))
  refine ⟨r * 5 + e, by positivity, ?_⟩
  show Ideal.logistic _ * five + least = _
  rw [hL, five_eq, hE, EReal.coe_add, EReal.coe_mul]

end

/-! ## One target -/

/-- One where a target is inside the window along an axis, as the kernel takes it. -/
def inside (d : EReal) : BitVec 1 := BitVec.ofBool (decide (FloatOps.absf (F := Ideal) (φ := .f32) d ≤ radius))

/-- The reference's weighted correlation of one target at offsets `dx`, `dy`. -/
def weigh (cr dx dy cx cy dt : EReal) : EReal :=
  Ideal.div (cr * Ideal.exp (half * (Ideal.div (dx * dx) cx + Ideal.div (dy * dy) cy))
      * FloatOps.uitofp (F := Ideal) .f32 (IntOp.andi (inside dx) (inside dy)))
    (Ideal.div (top157 * Ideal.sqrt dt) bot25) + cr

/-- The kernel's form of it, from the exponents' factors and the normalising factor. -/
def weighK (cr dx dy nx ny nd : EReal) : EReal :=
  cr + cr * (Ideal.exp (ny * dy * dy) * FloatOps.sitofp (F := Ideal) .f32 (BitVec.setWidth 32 (inside dy))
    * (Ideal.exp (nx * dx * dx) * FloatOps.sitofp (F := Ideal) .f32 (BitVec.setWidth 32 (inside dx)) * nd))

/-- The two masks multiplied are the mask of both. -/
theorem masks (a b : BitVec 1) : FloatOps.uitofp (F := Ideal) .f32 (IntOp.andi a b)
    = FloatOps.sitofp (F := Ideal) .f32 (BitVec.setWidth 32 b) * FloatOps.sitofp (F := Ideal) .f32 (BitVec.setWidth 32 a) := by
  have h : ∀ c : BitVec 1, c = 0#1 ∨ c = 1#1 := by decide
  rcases h a with rfl | rfl <;> rcases h b with rfl | rfl <;> simp [FloatOps.uitofp, FloatOps.sitofp, IntOp.andi]

/-- The exponential of a sum of two numbers that are not positive is the product of the exponentials. -/
theorem exp_add (a b : EReal) (ha : a ≤ 0) (hb : b ≤ 0) : Ideal.exp (a + b) = Ideal.exp a * Ideal.exp b := by
  induction a with
  | bot => simp
  | top => simp at ha
  | coe r =>
    induction b with
    | bot => simp
    | top => simp at hb
    | coe s => rw [← EReal.coe_add, Ideal.exp_coe, Ideal.exp_coe, Ideal.exp_coe, Real.exp_add, EReal.coe_mul]

/-- One axis of the exponent: the kernel divides first and multiplies by the offset twice. -/
theorem expo (d : EReal) (c : ℝ) (hc : 0 < c) :
    Ideal.div half c * d * d = half * Ideal.div (d * d) c ∧ 0 ≤ Ideal.div (d * d) (c : EReal) := by
  rw [Ideal.div_coe hc.ne', Ideal.div_coe hc.ne']
  refine ⟨by ac_rfl, mul_nonneg (sq_nonneg' d) ?_⟩
  exact_mod_cast (by positivity : (0 : ℝ) ≤ 1 / c)

/-- The kernel's form of a weighted correlation is the reference's. -/
theorem weigh_eq (cr dx dy cx cy : EReal) (hx : ∃ r : ℝ, 0 < r ∧ cx = (r : EReal)) (hy : ∃ r : ℝ, 0 < r ∧ cy = (r : EReal)) :
    weighK cr dx dy (Ideal.div half cx) (Ideal.div half cy) (((25 / 157 : ℝ) : EReal) * Ideal.rsqrt (cx * cy))
      = weigh cr dx dy cx cy (cx * cy) := by
  obtain ⟨r, hr, rfl⟩ := hx
  obtain ⟨s, hs, rfl⟩ := hy
  have hp : 0 < r * s := mul_pos hr hs
  have hq : 0 < Real.sqrt (r * s) := Real.sqrt_pos.mpr hp
  obtain ⟨ex, nx⟩ := expo dx r hr
  obtain ⟨ey, ny⟩ := expo dy s hs
  have hh : half ≤ 0 := by rw [half_eq]; exact_mod_cast (by norm_num : (-(1 / 2) : ℝ) ≤ 0)
  have le : ∀ x : EReal, 0 ≤ x → half * x ≤ 0 := fun x h => EReal.mul_nonpos_iff.mpr (.inr ⟨hh, h⟩)
  have hden : Ideal.div (top157 * Ideal.sqrt (((r * s : ℝ)) : EReal)) bot25 = ((157 * Real.sqrt (r * s) / 25 : ℝ) : EReal) := by
    rw [top157_eq, bot25_eq, Ideal.sqrt_coe, if_neg (by linarith), Ideal.div_coe (by norm_num), ← EReal.coe_mul, ← EReal.coe_mul]
    congr 1; ring
  have hinv : (1 / (157 * Real.sqrt (r * s) / 25) : ℝ) = 25 / 157 * (Real.sqrt (r * s))⁻¹ := by
    field_simp
  rw [weighK, weigh, ex, ey, ← EReal.coe_mul, hden, Ideal.div_coe (y := 157 * Real.sqrt (r * s) / 25) (by positivity), hinv, Ideal.rsqrt_coe,
    if_neg (by linarith), if_neg hp.ne', masks, EReal.left_distrib_of_nonneg nx ny, exp_add _ _ (le _ nx) (le _ ny), EReal.coe_mul]
  rw [add_comm]
  congr 1
  ac_rfl

end Cert.Spec

end
-- ==== Proof.KernelVals.lean ====
/- What the kernel's first point computes, read at an index: the problem's mathematics, given what its windows hold. -/
module

public import proofs.«01_k».proof.Proof.BodyVals
public import proofs.«01_k».proof.Proof.Spec

@[expose] public section

set_option maxRecDepth 16384

noncomputable section

namespace Cert.KernelIdeal.Vals

open Idealize.ShloMosaic Idealize.ShloMosaic.TcCoe Idealize.SL.Sem
open Cert.KernelIdeal Cert.KernelIdeal.Gen Cert.KernelIdeal.Body
open Cert.Spec (head row col at_ num pix)

/-! ## Sums against the batch indicator -/

/-- The indicator of a batch entry, one row per entry and one column per pixel. -/
def IsBatch (x5 : FVec Ideal S4x9216 .f32) : Prop :=
  ∀ (b : Fin 4) (n : Fin 9216), x5 (ix2 b n) = if n.val / 2304 = b.val then 1 else 0

/-- A sum against a row of the indicator is the sum over that batch entry. -/
theorem sum_row {x5 : FVec Ideal S4x9216 .f32} (h5 : IsBatch x5) (f : Fin 9216 → EReal) (b : Fin 4) :
    ∑ n : Fin 9216, f n * x5 (ix2 b n) = ∑ p : Fin 2304, f (pix b p) := by
  rw [Fin.sum_univ_tiles 4 2304 rfl (fun n => f n * x5 (ix2 b n)), Finset.sum_eq_single b]
  · refine Finset.sum_congr rfl fun p _ => ?_
    rw [h5, if_pos (by show (b.val * 2304 + p.val) / 2304 = b.val; omega), mul_one]
    rfl
  · intro b' _ hb
    refine Finset.sum_eq_zero fun p _ => ?_
    have : b'.val ≠ b.val := fun e => hb (Fin.ext e)
    rw [h5, if_neg (by show ¬ (b'.val * 2304 + p.val) / 2304 = b.val; omega), mul_zero]
  · exact fun h => absurd (Finset.mem_univ _) h

/-- A sum against a column of the indicator is the term of the column's batch entry. -/
theorem sum_col {x5 : FVec Ideal S4x9216 .f32} (h5 : IsBatch x5) (g : Fin 4 → EReal) (q : Fin 4) (p : Fin 2304) :
    ∑ b : Fin 4, g b * x5 (ix2 b (pix q p)) = g q := by
  rw [Finset.sum_eq_single q]
  · rw [h5, if_pos (by show (q.val * 2304 + p.val) / 2304 = q.val; omega), mul_one]
  · intro b _ hb
    have : b.val ≠ q.val := fun e => hb (Fin.ext e)
    rw [h5, if_neg (by show ¬ (q.val * 2304 + p.val) / 2304 = b.val; omega), mul_zero]
  · exact fun h => absurd (Finset.mem_univ _) h

/-! ## What the windows hold -/

/-- What the windows of the first point hold, in terms of the arguments. -/
structure Holds (X : FVec Ideal S4x48x48x256 .f32) (W : FVec Ideal S16x256 .f32) (U : FVec Ideal S16 .f32)
    (A4 : FVec Ideal S2x16 .f32) (B5 : FVec Ideal S2 .f32) (A6 : FVec Ideal S2x16 .f32) (B7 : FVec Ideal S2 .f32)
    (x1 : FVec Ideal S256x16 .f32) (x2 : FVec Ideal S1x16 .f32) (x3 : FVec Ideal S8x16 .f32) (x4 : FVec Ideal S8x1 .f32)
    (x5 : FVec Ideal S4x9216 .f32) (x6 x7 : FVec Ideal S1x9216 .f32) : Prop where
  w : ∀ (l : Fin 256) (k : Fin 16), x1 (ix2 l k) = W (ix2 k l)
  u : ∀ k : Fin 16, x2 (ix2 0 k) = U (ix1 k)
  a4 : ∀ (o : Fin 2) (k : Fin 16), x3 (ix2 ⟨o.val, by omega⟩ k) = A4 (ix2 o k)
  a6 : ∀ (o : Fin 2) (k : Fin 16), x3 (ix2 ⟨2 + o.val, by omega⟩ k) = A6 (ix2 o k)
  b5 : ∀ o : Fin 2, x4 (ix2 ⟨o.val, by omega⟩ 0) = B5 (ix1 o)
  b7 : ∀ o : Fin 2, x4 (ix2 ⟨2 + o.val, by omega⟩ 0) = B7 (ix1 o)
  batch : IsBatch x5
  cols : ∀ n : Fin 9216, x6 (ix2 0 n) = num ⟨n.val % 48, by omega⟩
  rows : ∀ n : Fin 9216, x7 (ix2 0 n) = num ⟨n.val / 48 % 48, by omega⟩

section
variable {X : FVec Ideal S4x48x48x256 .f32} {W : FVec Ideal S16x256 .f32} {U : FVec Ideal S16 .f32}
  {A4 : FVec Ideal S2x16 .f32} {B5 : FVec Ideal S2 .f32} {A6 : FVec Ideal S2x16 .f32} {B7 : FVec Ideal S2 .f32}
  {x1 : FVec Ideal S256x16 .f32} {x2 : FVec Ideal S1x16 .f32} {x3 : FVec Ideal S8x16 .f32} {x4 : FVec Ideal S8x1 .f32}
  {x5 : FVec Ideal S4x9216 .f32} {x6 x7 : FVec Ideal S1x9216 .f32}
  (H : Holds X W U A4 B5 A6 B7 x1 x2 x3 x4 x5 x6 x7)
include H

omit H in
/-- Indices with equal coordinates are equal. -/
theorem ix4_congr {a a' : Fin 4} {b b' c c' : Fin 48} {l : Fin 256} (h : a = a') (h' : b = b') (h'' : c = c') :
    (ix4 a b c l : S4x48x48x256.Idx) = ix4 a' b' c' l := by subst h h' h''; rfl

/-- One hidden feature times a weight, at a pixel of the long row. -/
theorem lin_at (q : Fin 4) (p : Fin 2304) (r : Fin 8) : heads (F := Ideal) X x1 x2 x3 x4 (ix2 r (pix q p))
    = (∑ k : Fin 16, Ideal.tanh ((∑ l : Fin 256, X (ix4 q (row p) (col p) l) * W (ix2 k l)) + U (ix1 k)) * x3 (ix2 r k))
      + x4 (ix2 r 0) := by
  pointwise [Body.heads, k0_pay2]
  have e1 : (⟨(pix q p).val / 2304, by have := (pix q p).isLt; omega⟩ : Fin 4) = q :=
    Fin.ext (by show (q.val * 2304 + p.val) / 2304 = q.val; omega)
  have e2 : (⟨(pix q p).val / 48 % 48, by omega⟩ : Fin 48) = row p :=
    Fin.ext (by show (q.val * 2304 + p.val) / 48 % 48 = p.val / 48; omega)
  have e3 : (⟨(pix q p).val % 48, by omega⟩ : Fin 48) = col p :=
    Fin.ext (by show (q.val * 2304 + p.val) % 48 = p.val % 48; omega)
  refine congrArg (· + x4 (ix2 r 0)) (Finset.sum_congr rfl fun k _ => (mul_comm _ _).trans
    (congrArg (fun y => Ideal.tanh y * x3 (ix2 r k)) (congrArg₂ (· + ·) (Finset.sum_congr rfl fun l _ => ?_) (H.u k))))
  exact congrArg₂ (· * ·) (by exact congrArg X (ix4_congr e1 e2 e3)) (H.w l k)

/-- The first two rows of heads. -/
theorem ofs_at (q : Fin 4) (p : Fin 2304) (o : Fin 2) :
    heads (F := Ideal) X x1 x2 x3 x4 (ix2 ⟨o.val, by omega⟩ (pix q p)) = head X W U A4 B5 q p o := by
  rw [lin_at H, H.b5]
  simp only [H.a4]
  rfl

/-- The next two rows of heads. -/
theorem cov_at (q : Fin 4) (p : Fin 2304) (o : Fin 2) :
    heads (F := Ideal) X x1 x2 x3 x4 (ix2 ⟨2 + o.val, by omega⟩ (pix q p)) = head X W U A6 B7 q p o := by
  rw [lin_at H, H.b7]
  simp only [H.a6]
  rfl

/-- The mean of a batch entry as the kernel takes it. -/
def meanK (z : Fin 2304 → Fin 2 → EReal) : EReal := (∑ o, ∑ p, z p o) * ((1 / 4608 : ℝ) : EReal)

omit H in
/-- The named reciprocal of the count. -/
theorem inv_count : Named.named (F := Ideal) κ "inv_count" (φ := .f32) 0x39638E39#32 = ((1 / 4608 : ℝ) : EReal) :=
  IdealRules.named_const.ideal_named_scalar _ _ _ _ rfl

omit H in
/-- The named reciprocal of the normalising constant. -/
theorem inv_six28 : Named.named (F := Ideal) κ "inv_six28" (φ := .f32) 0x3E230EAD#32 = ((25 / 157 : ℝ) : EReal) :=
  IdealRules.named_const.ideal_named_scalar _ _ _ _ rfl

/-- The centred rows. -/
theorem centred_at (q : Fin 4) (p : Fin 2304) (o : Fin 2) : centred (F := Ideal) X x1 x2 x3 x4 x5 (ix2 o (pix q p))
    = head X W U A6 B7 q p o - meanK (head X W U A6 B7 q) := by
  pointwise [centred, k0_pay3]
  rw [sum_col H.batch (fun b => (∑ o' : Fin 2, ∑ n : Fin 9216, k0_pay2 (F := Ideal) X x1 x2 x3 x4 (ix2 ⟨2 + o'.val, by omega⟩ n) * x5 (ix2 b n))
    * Named.named (F := Ideal) κ "inv_count" (φ := .f32) 0x39638E39#32)]
  simp only [sum_row H.batch]
  rw [inv_count, meanK]
  refine congrArg₂ (· - ·) (cov_at H q p o) (congrArg (· * _) (Finset.sum_congr rfl fun o' _ => Finset.sum_congr rfl fun p' _ => ?_))
  exact cov_at H q p' o'

/-- The sums of squares. -/
theorem squares_at (q : Fin 4) (o : Fin 2) : squares (F := Ideal) X x1 x2 x3 x4 x5 (ix2 o q)
    = ∑ p, (head X W U A6 B7 q p o - meanK (head X W U A6 B7 q)) * (head X W U A6 B7 q p o - meanK (head X W U A6 B7 q)) := by
  pointwise [squares, k0_pay4]
  rw [sum_row H.batch (fun n => k0_pay3 (F := Ideal) X x1 x2 x3 x4 x5 x5 (ix2 o n) * k0_pay3 (F := Ideal) X x1 x2 x3 x4 x5 x5 (ix2 o n))]
  exact Finset.sum_congr rfl fun p _ => congrArg₂ (· * ·) (centred_at H q p o) (centred_at H q p o)

/-- The variances of a pixel. -/
theorem scale_at (q : Fin 4) (p : Fin 2304) (o : Fin 2) :
    k0_pay5 (F := Ideal) (centred X x1 x2 x3 x4 x5) (squares X x1 x2 x3 x4 x5) x5 (ix2 o (pix q p))
      = Spec.scale (head X W U A6 B7 q) p o := by
  pointwise [k0_pay5]
  rw [sum_col H.batch (fun b => Ideal.rsqrt ((∑ o' : Fin 2, squares (F := Ideal) X x1 x2 x3 x4 x5 (ix2 o' b))
    * Named.named (F := Ideal) κ "inv_count" (φ := .f32) 0x39638E39#32 + Ideal.ofBits .f32 0x3727C5AC#32))]
  rw [inv_count, centred_at H]
  simp only [squares_at H]
  exact Spec.scale_eq _ p o _ _ rfl rfl

/-- The array of determinants. -/
theorem det_at (q : Fin 4) (p : Fin 2304) : detVal (F := Ideal) X x1 x2 x3 x4 x5 (ix2 q p) = Spec.det (head X W U A6 B7 q) p := by
  pointwise [detVal, k0_pay9, k0_pay8, k0_pay6, k0_pay7]
  exact congrArg₂ (· * ·) (scale_at H q p 0) (scale_at H q p 1)

/-- The horizontal mean of a pixel. -/
theorem mx_at (q : Fin 4) (p : Fin 2304) : k0_pay11 (F := Ideal) (heads X x1 x2 x3 x4) x6 (ix2 0 (pix q p))
    = num (col p) + head X W U A4 B5 q p 0 := by
  pointwise [k0_pay11]
  rw [H.cols, add_comm]
  refine congrArg₂ (· + ·) (congrArg num (Fin.ext ?_)) (ofs_at H q p 0)
  show (q.val * 2304 + p.val) % 48 = p.val % 48; omega

/-- The vertical mean of a pixel. -/
theorem my_at (q : Fin 4) (p : Fin 2304) : k0_pay12 (F := Ideal) (heads X x1 x2 x3 x4) x7 (ix2 0 (pix q p))
    = num (row p) + head X W U A4 B5 q p 1 := by
  pointwise [k0_pay12]
  rw [H.rows, add_comm]
  refine congrArg₂ (· + ·) (congrArg num (Fin.ext ?_)) (ofs_at H q p 1)
  show (q.val * 2304 + p.val) / 48 % 48 = p.val / 48; omega

/-- The array of means, its horizontal coordinates. -/
theorem means_x (q : Fin 4) (i j : Fin 48) : meanVal (F := Ideal) X x1 x2 x3 x4 x6 x7 (ix4 q i j 0)
    = num j + head X W U A4 B5 q (at_ i j) 0 := by
  have e : (⟨q.val * 2304 + i.val * 48 + j.val, by omega⟩ : Fin 9216) = pix q (at_ i j) :=
    Fin.ext (by show q.val * 2304 + i.val * 48 + j.val = q.val * 2304 + (i.val * 48 + j.val); omega)
  pointwise [meanVal, k0_pay13]
  rw [e]
  exact (mx_at H q (at_ i j)).trans (by rw [Spec.col_at])

/-- The array of means, its vertical coordinates. -/
theorem means_y (q : Fin 4) (i j : Fin 48) : meanVal (F := Ideal) X x1 x2 x3 x4 x6 x7 (ix4 q i j 1)
    = num i + head X W U A4 B5 q (at_ i j) 1 := by
  have e : (⟨q.val * 2304 + i.val * 48 + j.val, by omega⟩ : Fin 9216) = pix q (at_ i j) :=
    Fin.ext (by show q.val * 2304 + i.val * 48 + j.val = q.val * 2304 + (i.val * 48 + j.val); omega)
  pointwise [meanVal, k0_pay13]
  rw [e]
  exact (my_at H q (at_ i j)).trans (by rw [Spec.row_at])

/-- The table's first column: horizontal means. -/
theorem park_0 (q : Fin 4) (p : Fin 2304) : parkVal (F := Ideal) X x1 x2 x3 x4 x5 x6 x7 (ix2 (pix q p) 0)
    = num (col p) + head X W U A4 B5 q p 0 := by
  pointwise [parkVal, k0_pay15]
  exact mx_at H q p

/-- The second column: vertical means. -/
theorem park_1 (q : Fin 4) (p : Fin 2304) : parkVal (F := Ideal) X x1 x2 x3 x4 x5 x6 x7 (ix2 (pix q p) 1)
    = num (row p) + head X W U A4 B5 q p 1 := by
  pointwise [parkVal, k0_pay15]
  exact my_at H q p

/-- The third column: the horizontal factor of the exponent. -/
theorem park_2 (q : Fin 4) (p : Fin 2304) : parkVal (F := Ideal) X x1 x2 x3 x4 x5 x6 x7 (ix2 (pix q p) 2)
    = Ideal.div Spec.half (Spec.scale (head X W U A6 B7 q) p 0) := by
  pointwise [parkVal, k0_pay15, k0_pay14, k0_pay6]
  exact congrArg (Ideal.div Spec.half) (scale_at H q p 0)

/-- The fourth column: the vertical factor of the exponent. -/
theorem park_3 (q : Fin 4) (p : Fin 2304) : parkVal (F := Ideal) X x1 x2 x3 x4 x5 x6 x7 (ix2 (pix q p) 3)
    = Ideal.div Spec.half (Spec.scale (head X W U A6 B7 q) p 1) := by
  pointwise [parkVal, k0_pay15, k0_pay7]
  exact congrArg (Ideal.div Spec.half) (scale_at H q p 1)

/-- The fifth column: the normalising factor. -/
theorem park_4 (q : Fin 4) (p : Fin 2304) : parkVal (F := Ideal) X x1 x2 x3 x4 x5 x6 x7 (ix2 (pix q p) 4)
    = ((25 / 157 : ℝ) : EReal)
      * Ideal.rsqrt (Spec.scale (head X W U A6 B7 q) p 0 * Spec.scale (head X W U A6 B7 q) p 1) := by
  pointwise [parkVal, k0_pay15, k0_pay10, k0_pay8, k0_pay6, k0_pay7]
  exact congrArg₂ (· * ·) inv_six28 (congrArg Ideal.rsqrt (congrArg₂ (· * ·) (scale_at H q p 0) (scale_at H q p 1)))

end

/-! ## What a point computes -/

/-- A block of weighted correlations, from the rows of the table it works on. -/
theorem block_at (pk : FVec Ideal S384x8 .f32) (x8 : FVec Ideal S1x8x48x48x48 .f32) (e : Fin 1) (i8 : Fin 8) (j u v : Fin 48) :
    blockVal (F := Ideal) pk x8 (ix5 e i8 j u v)
      = Spec.weighK (x8 (ix5 e i8 j u v)) (num v - pk (ix2 ⟨i8.val * 48 + j.val, by omega⟩ 0))
          (num u - pk (ix2 ⟨i8.val * 48 + j.val, by omega⟩ 1)) (pk (ix2 ⟨i8.val * 48 + j.val, by omega⟩ 2))
          (pk (ix2 ⟨i8.val * 48 + j.val, by omega⟩ 3)) (pk (ix2 ⟨i8.val * 48 + j.val, by omega⟩ 4)) := by
  obtain rfl : e = 0 := by omega
  pointwise [blockVal, k0_pay1, k0_pay17, k0_pay18, k0_pay19, k0_pay16]
  rfl

end Cert.KernelIdeal.Vals

end
-- ==== Proof.HostVals.lean ====
/- What the kernel's host operations leave in the arrays its windows read. -/
module

public import proofs.«01_k».proof.Proof.KernelVals
public import proofs.«01_k».proof.Proof.KRun
public import Idealize.ShloMosaic.Lib.Pipeline.ValueKit

@[expose] public section

set_option maxRecDepth 16384

noncomputable section

namespace Cert.KernelIdeal.HostVals

open Idealize.ShloMosaic Idealize.ShloMosaic.TcCoe Idealize.SL.Sem Idealize.ShloMosaic.StableHlo
open Cert.KernelIdeal Cert.KernelIdeal.Gen
open Cert.Spec (num)

variable (m : (ℓ : Loc nD τ sig) → Buf (Elt Ideal) ℓ) (c : Dev nD)

/-- The divisor of a remainder, one where it is nothing. -/
def safe (d : IVec S_ 32) : IVec S_ 32 :=
  select (cmpi .eq d (constantI S_ 32 0#32)) (constantI S_ 32 1#32) d

/-- The host's remainder by `d`, with the sign of the divisor. -/
def remV (n : IVec S9216 32) (d : IVec S_ 32) : IVec S9216 32 :=
  let s := broadcastInDim S9216 ![] bcast_S_S9216 (safe d)
  let r := Host.remsi n s
  let z := broadcastInDim S9216 ![] bcast_S_S9216 (constantI S_ 32 0#32)
  select (andi (cmpi .ne (cmpi .slt r z)
      (broadcastInDim S9216 ![] bcast_S_S9216 (cmpi .slt (safe d) (constantI S_ 32 0#32)))) (cmpi .ne r z))
    (addi r s) r

/-- The host's quotient by `d`, rounded down. -/
def divV (n : IVec S9216 32) (d : IVec S_ 32) : IVec S9216 32 :=
  let s := broadcastInDim S9216 ![] bcast_S_S9216 d
  let q := Host.divsi n s
  select (andi (cmpi .ne (signi n) (broadcastInDim S9216 ![] bcast_S_S9216 (signi d)))
      (cmpi .ne (Host.remsi n s) (broadcastInDim S9216 ![] bcast_S_S9216 (constantI S_ 32 0#32))))
    (subi q (broadcastInDim S9216 ![] bcast_S_S9216 (constantI S_ 32 1#32))) q

/-- A pixel's column as the kernel's host part counts it. -/
def colV : IVec S9216 32 := remV (iotaInDim S9216 32 0) (constantI S_ 32 48#32)

/-- A pixel's row as the kernel's host part counts it. -/
def rowV : IVec S9216 32 :=
  remV (divV (iotaInDim S9216 32 0) (constantI S_ 32 48#32)) (constantI S_ 32 48#32)

/-- The weights the kernel's first product reads are its argument's transpose. -/
theorem v21_eq : V m c main_v21
    = transpose S256x16 [1, 0] (m ((c.tc : Thread nD τ).loc main_arg2)) transposes_S16x256_S256x16_1_0 := by
  simp only [V, hostOps0, hostOps0_1, hostOps0_2, hostOps0_3, hostOps0_4, hostOps0_5, hostOps0_6,
    List.flatten_cons, List.flatten_nil, List.append_nil, List.cons_append, List.nil_append,
    TRef.binary, TRef.nullary, TRef.ternary, TRef.unary, TRef.toBuf, TRef.ofBuf, cast_eq]
  after_results_simp <;> rfl

/-- The first bias is its argument, laid along a row. -/
theorem v22_eq : V m c main_v22
    = shapeCast S1x16 (m ((c.tc : Thread nD τ).loc main_arg3)) shapeCasts_S16_S1x16 := by
  simp only [V, hostOps0, hostOps0_1, hostOps0_2, hostOps0_3, hostOps0_4, hostOps0_5, hostOps0_6,
    List.flatten_cons, List.flatten_nil, List.append_nil, List.cons_append, List.nil_append,
    TRef.binary, TRef.nullary, TRef.ternary, TRef.unary, TRef.toBuf, TRef.ofBuf, cast_eq]
  after_results_simp <;> rfl

/-- The second weights: the two heads' one under the other, and zeros below. -/
theorem v1_eq : V m c main_v1
    = concatenate S8x16 0 [⟨S2x16, m ((c.tc : Thread nD τ).loc main_arg4)⟩,
        ⟨S2x16, m ((c.tc : Thread nD τ).loc main_arg6)⟩,
        ⟨S4x16, broadcastInDim S4x16 ![] bcast_S_S4x16 (constant (F := Ideal) S_ .f32 0x00000000#32)⟩]
        concatenates_S2x16_S2x16_S4x16_S8x16_d0 := by
  simp only [V, hostOps0, hostOps0_1, hostOps0_2, hostOps0_3, hostOps0_4, hostOps0_5, hostOps0_6,
    List.flatten_cons, List.flatten_nil, List.append_nil, List.cons_append, List.nil_append,
    TRef.binary, TRef.nullary, TRef.ternary, TRef.unary, TRef.toBuf, TRef.ofBuf, cast_eq]
  after_results_simp <;> rfl

/-- The second biases: the two heads' one under the other, and zeros below. -/
theorem v4_eq : V m c main_v4
    = shapeCast S8x1 (concatenate S8 0 [⟨S2, m ((c.tc : Thread nD τ).loc main_arg5)⟩,
        ⟨S2, m ((c.tc : Thread nD τ).loc main_arg7)⟩,
        ⟨S4, broadcastInDim S4 ![] bcast_S_S4 (constant (F := Ideal) S_ .f32 0x00000000#32)⟩]
        concatenates_S2_S2_S4_S8_d0) shapeCasts_S8_S8x1 := by
  simp only [V, hostOps0, hostOps0_1, hostOps0_2, hostOps0_3, hostOps0_4, hostOps0_5, hostOps0_6,
    List.flatten_cons, List.flatten_nil, List.append_nil, List.cons_append, List.nil_append,
    TRef.binary, TRef.nullary, TRef.ternary, TRef.unary, TRef.toBuf, TRef.ofBuf, cast_eq]
  after_results_simp <;> rfl

/-- The batch marks: one where a pixel lies in the batch, nothing elsewhere. -/
theorem v12_eq : V m c main_v12
    = shapeCast S4x9216 (broadcastInDim S4x4x2304 ![0, 1] bcast_S4x4_S4x4x2304_0_1
        (uitofp (F := Ideal) .f32 (cmpi .eq (addi (iotaInDim S4x4 32 0)
          (broadcastInDim S4x4 ![] bcast_S_S4x4 (constantI S_ 32 0#32))) (iotaInDim S4x4 32 1))))
        shapeCasts_S4x4x2304_S4x9216 := by
  simp only [V, hostOps0, hostOps0_1, hostOps0_2, hostOps0_3, hostOps0_4, hostOps0_5, hostOps0_6,
    List.flatten_cons, List.flatten_nil, List.append_nil, List.cons_append, List.nil_append,
    TRef.binary, TRef.nullary, TRef.ternary, TRef.unary, TRef.toBuf, TRef.ofBuf, cast_eq]
  after_results_simp <;> rfl

/-- The columns the kernel reads. -/
theorem v16_eq : V m c main_v16
    = shapeCast S1x9216 (sitofp (F := Ideal) .f32 colV) shapeCasts_S9216_S1x9216 := by
  simp only [V, hostOps0, hostOps0_1, hostOps0_2, hostOps0_3, hostOps0_4, hostOps0_5, hostOps0_6,
    List.flatten_cons, List.flatten_nil, List.append_nil, List.cons_append, List.nil_append,
    TRef.binary, TRef.nullary, TRef.ternary, TRef.unary, TRef.toBuf, TRef.ofBuf, cast_eq]
  after_results_simp <;> rfl

/-- The rows the kernel reads. -/
theorem v20_eq : V m c main_v20
    = shapeCast S1x9216 (sitofp (F := Ideal) .f32 rowV) shapeCasts_S9216_S1x9216 := by
  simp only [V, hostOps0, hostOps0_1, hostOps0_2, hostOps0_3, hostOps0_4, hostOps0_5, hostOps0_6,
    List.flatten_cons, List.flatten_nil, List.append_nil, List.cons_append, List.nil_append,
    TRef.binary, TRef.nullary, TRef.ternary, TRef.unary, TRef.toBuf, TRef.ofBuf, cast_eq]
  after_results_simp <;> rfl

/-- One pixel's column. -/
theorem colV_at (n : Fin 9216) : colV (ix1 n) = BitVec.ofNat 32 (n.val % 48) := by
  have h : ∀ n : Fin 9216, colV (ix1 n) = BitVec.ofNat 32 (n.val % 48) := by decide +kernel
  exact h n

/-- One pixel's row. -/
theorem rowV_at (n : Fin 9216) : rowV (ix1 n) = BitVec.ofNat 32 (n.val / 48 % 48) := by
  have h : ∀ n : Fin 9216, rowV (ix1 n) = BitVec.ofNat 32 (n.val / 48 % 48) := by decide +kernel
  exact h n
-- ==== Proof.HostAt.lean ====
/- The windows' blocks at the first point, entry by entry. -/
module

public import proofs.«01_k».proof.Proof.HostVals

@[expose] public section

set_option maxRecDepth 16384

noncomputable section

namespace Cert.KernelIdeal.HostVals

open Idealize.ShloMosaic Idealize.ShloMosaic.TcCoe Idealize.SL.Sem Idealize.ShloMosaic.StableHlo
open Cert.KernelIdeal Cert.KernelIdeal.Gen Cert.KernelIdeal.Body Cert.KernelIdeal.Vals
open Cert.Spec (num)

/-! ## The host's movements, entry by entry -/

/-- A transpose's entries. -/
theorem transpose_at (W : FVec Ideal S16x256 .f32) (l : Fin 256) (k : Fin 16) :
    transpose S256x16 [1, 0] W transposes_S16x256_S256x16_1_0 (ix2 l k) = W (ix2 k l) := by
  pointwise

/-- A vector laid along a row. -/
theorem line_at (U : FVec Ideal S16 .f32) (k : Fin 16) :
    shapeCast S1x16 U shapeCasts_S16_S1x16 (ix2 0 k) = U (ix1 k) := by
  pointwise

/-- The upper rows of the stacked weights. -/
theorem stack_upper (A B : FVec Ideal S2x16 .f32) (Z : FVec Ideal S4x16 .f32) (o : Fin 2) (k : Fin 16) :
    concatenate S8x16 0 [⟨S2x16, A⟩, ⟨S2x16, B⟩, ⟨S4x16, Z⟩] concatenates_S2x16_S2x16_S4x16_S8x16_d0
      (ix2 ⟨o.val, by omega⟩ k) = A (ix2 o k) := by
  pointwise

/-- The rows of the stacked weights under the upper ones. -/
theorem stack_lower (A B : FVec Ideal S2x16 .f32) (Z : FVec Ideal S4x16 .f32) (o : Fin 2) (k : Fin 16) :
    concatenate S8x16 0 [⟨S2x16, A⟩, ⟨S2x16, B⟩, ⟨S4x16, Z⟩] concatenates_S2x16_S2x16_S4x16_S8x16_d0
      (ix2 ⟨2 + o.val, by omega⟩ k) = B (ix2 o k) := by
  pointwise

/-- The upper entries of the stacked biases. -/
theorem bias_upper (A B : FVec Ideal S2 .f32) (Z : FVec Ideal S4 .f32) (o : Fin 2) :
    shapeCast S8x1 (concatenate S8 0 [⟨S2, A⟩, ⟨S2, B⟩, ⟨S4, Z⟩] concatenates_S2_S2_S4_S8_d0)
      shapeCasts_S8_S8x1 (ix2 ⟨o.val, by omega⟩ 0) = A (ix1 o) := by
  pointwise

/-- The entries of the stacked biases under the upper ones. -/
theorem bias_lower (A B : FVec Ideal S2 .f32) (Z : FVec Ideal S4 .f32) (o : Fin 2) :
    shapeCast S8x1 (concatenate S8 0 [⟨S2, A⟩, ⟨S2, B⟩, ⟨S4, Z⟩] concatenates_S2_S2_S4_S8_d0)
      shapeCasts_S8_S8x1 (ix2 ⟨2 + o.val, by omega⟩ 0) = B (ix1 o) := by
  pointwise

/-- The host's marks tell which batch entry a pixel is of. -/
theorem marks_at : IsBatch (shapeCast S4x9216 (broadcastInDim S4x4x2304 ![0, 1] bcast_S4x4_S4x4x2304_0_1
        (uitofp (F := Ideal) .f32 (cmpi .eq (addi (iotaInDim S4x4 32 0)
          (broadcastInDim S4x4 ![] bcast_S_S4x4 (constantI S_ 32 0#32))) (iotaInDim S4x4 32 1))))
        shapeCasts_S4x4x2304_S4x9216) := by
  intro b n
  pointwise
  rw [show IntOp.addi (BitVec.ofNat 32 b.val) 0#32 = BitVec.ofNat 32 b.val from BitVec.add_zero _]
  simp only [hlo_ix]
  by_cases h : n.val / 2304 = b.val
  · rw [if_pos h]
    simp [FloatOps.uitofp, h]
  · rw [if_neg h]
    have : ¬ b.val = n.val / 2304 := fun e => h e.symm
    simp [FloatOps.uitofp]
    omega

/-- Integers laid along a row, as numbers. -/
theorem ints_at (w : IVec S9216 32) (n : Fin 9216) :
    shapeCast S1x9216 (sitofp (F := Ideal) .f32 w) shapeCasts_S9216_S1x9216 (ix2 0 n)
      = FloatOps.sitofp (F := Ideal) .f32 (w (ix1 n)) := by
  pointwise

/-! ## The blocks -/

variable (m : (ℓ : Loc nD τ sig) → Buf (Elt Ideal) ℓ) (c : Dev nD)

/-- Where the windows' blocks lie. -/
theorem idx : ∀ t : Fin cfg0.N, win0_0.index t = ![0, 0, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![(grid0.coords t 0).val, (grid0.coords t 1).val, 0, 0, 0]
    ∧ win0_9.index t = ![(grid0.coords t 0).val, (grid0.coords t 1).val, 0, 0, 0] :=
  (by decide +kernel : ∀ t : Fin grid0.N, _)

/-- The features' block is the whole argument. -/
theorem blk0 (t : Fin cfg0.N) : iblk m c 0 t = m ((c.tc : Thread nD τ).loc main_arg0) := by
  blk_ext! [iblk, V, idx t]

/-- Reading window 1's block is reading its whole array. -/
theorem read1 (t : Fin cfg0.N) (X : FVec Ideal S256x16 .f32) : ((cfg0.win 1).blk t).view.read (Elt Ideal) X = X := by
  blk_ext! [idx t]

/-- The first weights' block is their whole array. -/
theorem blk1 (t : Fin cfg0.N) : iblk m c 1 t = V m c main_v21 := read1 t (V m c main_v21)

/-- Reading window 2's block is reading its whole array. -/
theorem read2 (t : Fin cfg0.N) (X : FVec Ideal S1x16 .f32) : ((cfg0.win 2).blk t).view.read (Elt Ideal) X = X := by
  blk_ext! [idx t]

/-- The first bias's block is its whole array. -/
theorem blk2 (t : Fin cfg0.N) : iblk m c 2 t = V m c main_v22 := read2 t (V m c main_v22)

/-- Reading window 3's block is reading its whole array. -/
theorem read3 (t : Fin cfg0.N) (X : FVec Ideal S8x16 .f32) : ((cfg0.win 3).blk t).view.read (Elt Ideal) X = X := by
  blk_ext! [idx t]

/-- The second weights' block is their whole array. -/
theorem blk3 (t : Fin cfg0.N) : iblk m c 3 t = V m c main_v1 := read3 t (V m c main_v1)

/-- Reading window 4's block is reading its whole array. -/
theorem read4 (t : Fin cfg0.N) (X : FVec Ideal S8x1 .f32) : ((cfg0.win 4).blk t).view.read (Elt Ideal) X = X := by
  blk_ext! [idx t]

/-- The second biases' block is their whole array. -/
theorem blk4 (t : Fin cfg0.N) : iblk m c 4 t = V m c main_v4 := read4 t (V m c main_v4)

/-- Reading window 5's block is reading its whole array. -/
theorem read5 (t : Fin cfg0.N) (X : FVec Ideal S4x9216 .f32) : ((cfg0.win 5).blk t).view.read (Elt Ideal) X = X := by
  blk_ext! [idx t]

/-- The batch marks' block is their whole array. -/
theorem blk5 (t : Fin cfg0.N) : iblk m c 5 t = V m c main_v12 := read5 t (V m c main_v12)

/-- Reading window 6's block is reading its whole array. -/
theorem read6 (t : Fin cfg0.N) (X : FVec Ideal S1x9216 .f32) : ((cfg0.win 6).blk t).view.read (Elt Ideal) X = X := by
  blk_ext! [idx t]

/-- The columns' block is their whole array. -/
theorem blk6 (t : Fin cfg0.N) : iblk m c 6 t = V m c main_v16 := read6 t (V m c main_v16)

/-- Reading window 7's block is reading its whole array. -/
theorem read7 (t : Fin cfg0.N) (X : FVec Ideal S1x9216 .f32) : ((cfg0.win 7).blk t).view.read (Elt Ideal) X = X := by
  blk_ext! [idx t]

/-- The rows' block is their whole array. -/
theorem blk7 (t : Fin cfg0.N) : iblk m c 7 t = V m c main_v20 := read7 t (V m c main_v20)

/-! ## What the first point's windows hold -/

/-- The blocks of the first point hold what the mathematics is stated over. -/
theorem holds (t : Fin cfg0.N) : Holds (m ((c.tc : Thread nD τ).loc main_arg0)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) (iblk m c 1 t) (iblk m c 2 t) (iblk m c 3 t) (iblk m c 4 t)
    (iblk m c 5 t) (iblk m c 6 t) (iblk m c 7 t) where
  w l k := (congrFun ((blk1 m c t).trans (v21_eq m c)) (ix2 l k)).trans (transpose_at _ l k)
  u k := (congrFun ((blk2 m c t).trans (v22_eq m c)) (ix2 0 k)).trans (line_at _ k)
  a4 o k := (congrFun ((blk3 m c t).trans (v1_eq m c)) (ix2 _ k)).trans (stack_upper _ _ _ o k)
  a6 o k := (congrFun ((blk3 m c t).trans (v1_eq m c)) (ix2 _ k)).trans (stack_lower _ _ _ o k)
  b5 o := (congrFun ((blk4 m c t).trans (v4_eq m c)) (ix2 _ 0)).trans (bias_upper _ _ _ o)
  b7 o := (congrFun ((blk4 m c t).trans (v4_eq m c)) (ix2 _ 0)).trans (bias_lower _ _ _ o)
  batch b n := (congrFun ((blk5 m c t).trans (v12_eq m c)) (ix2 b n)).trans (marks_at b n)
  cols n := (congrFun ((blk6 m c t).trans (v16_eq m c)) (ix2 0 n)).trans ((ints_at colV n).trans (by rw [colV_at]; rfl))
  rows n := (congrFun ((blk7 m c t).trans (v20_eq m c)) (ix2 0 n)).trans ((ints_at rowV n).trans (by rw [rowV_at]; rfl))

end Cert.KernelIdeal.HostVals

end
-- ==== Proof.Stages.lean ====
/- The reference's results as compositions of named stages, each read at an index. -/
module

public import proofs.«01_k».proof.Proof.Gen.ReferenceIdeal.Run
public import Idealize.ShloMosaic.Lib.Pointwise

@[expose] public section

set_option maxRecDepth 16384

noncomputable section

namespace Cert.ReferenceIdeal.Stage

open Idealize.ShloMosaic Idealize.ShloMosaic.TcCoe Idealize.SL.Sem Idealize.ShloMosaic.StableHlo
open Cert.ReferenceIdeal Cert.ReferenceIdeal.Gen Cert.ReferenceIdeal.Value

/-- The sixteen hidden features of each pixel. -/
def hidden (x0 : FVec Ideal S4x48x48x256 .f32) (x2 : FVec Ideal S16x256 .f32) (x3 : FVec Ideal S16 .f32) : FVec Ideal S4x48x48x16 .f32 :=
  Host.tanh (addf (Host.dotGeneral dot_S4x48x48x256_S256x16_S4x48x48x16_3_0_012_1_n_n none x0 (transpose S256x16 [1, 0] x2 transposes_S16x256_S256x16_1_0)) (broadcastInDim S4x48x48x16 ![0, 1, 2, 3] bcast_S1x1x1x16_S4x48x48x16_0_1_2_3 (broadcastInDim S1x1x1x16 ![3] bcast_S16_S1x1x1x16_3 x3)))

/-- Two linear heads of the hidden features, pixels in one row. -/
def heads (t : FVec Ideal S4x48x48x16 .f32) (a : FVec Ideal S2x16 .f32) (b : FVec Ideal S2 .f32) : FVec Ideal S4x2304x2 .f32 :=
  shapeCast S4x2304x2 (addf (Host.dotGeneral dot_S4x48x48x16_S16x2_S4x48x48x2_3_0_012_1_n_n none t (transpose S16x2 [1, 0] a transposes_S2x16_S16x2_1_0)) (broadcastInDim S4x48x48x2 ![0, 1, 2, 3] bcast_S1x1x1x2_S4x48x48x2_0_1_2_3 (broadcastInDim S1x1x1x2 ![3] bcast_S2_S1x1x1x2_3 b))) shapeCasts_S4x48x48x2_S4x2304x2

/-- The mean of each batch entry. -/
def mu (z : FVec Ideal S4x2304x2 .f32) : FVec Ideal S4 .f32 :=
  Host.divf (Host.reduceAdd z (constant S_ .f32 0x00000000#32) reducesTo_S4x2304x2_S4_d1_2 h_S_) (broadcastInDim S4 ![] bcast_S_S4 (constant S_ .f32 0x45900000#32))

/-- The same mean with its two axes kept. -/
def muKept (z : FVec Ideal S4x2304x2 .f32) : FVec Ideal S4x1x1 .f32 :=
  Host.divf (broadcastInDim S4x1x1 ![0] bcast_S4_S4x1x1_0 (Host.reduceAdd z (constant S_ .f32 0x00000000#32) reducesTo_S4x2304x2_S4_d1_2 h_S_)) (broadcastInDim S4x1x1 ![] bcast_S_S4x1x1 (constant S_ .f32 0x45900000#32))

/-- The variance of each batch entry. -/
def var (z : FVec Ideal S4x2304x2 .f32) : FVec Ideal S4 .f32 :=
  select (broadcastInDim S4 ![] bcast_S_S4 (cmpf .ogt (subf (constant S_ .f32 0x45900000#32) (sitofp .f32 (constantI S_ 32 0#32)) : FVec Ideal S_ .f32) (constant S_ .f32 0x00000000#32))) (Host.divf (Host.reduceAdd (mulf (subf z (broadcastInDim S4x2304x2 ![0, 1, 2] bcast_S4x1x1_S4x2304x2_0_1_2 (muKept z))) (subf z (broadcastInDim S4x2304x2 ![0, 1, 2] bcast_S4x1x1_S4x2304x2_0_1_2 (muKept z)))) (constant S_ .f32 0x00000000#32) reducesTo_S4x2304x2_S4_d1_2 h_S_) (broadcastInDim S4 ![] bcast_S_S4 (subf (constant S_ .f32 0x45900000#32) (sitofp .f32 (constantI S_ 32 0#32))))) (broadcastInDim S4 ![] bcast_S_S4 (id (constant S_ .f32 0x7FC00000#32) : FVec Ideal S_ .f32))

/-- Each batch entry with its mean taken off, over the root of its variance. -/
def norm (z : FVec Ideal S4x2304x2 .f32) : FVec Ideal S4x2304x2 .f32 :=
  Host.divf (subf z (broadcastInDim S4x2304x2 ![0, 1, 2] bcast_S4x1x1_S4x2304x2_0_1_2 (shapeCast S4x1x1 (mu z) shapeCasts_S4_S4x1x1))) (broadcastInDim S4x2304x2 ![0, 1, 2] bcast_S4x1x1_S4x2304x2_0_1_2 (shapeCast S4x1x1 (Host.sqrt (addf (var z) (broadcastInDim S4 ![] bcast_S_S4 (constant S_ .f32 0x3727C5AC#32)))) shapeCasts_S4_S4x1x1))

/-- The two variances of each pixel. -/
def scale (z : FVec Ideal S4x2304x2 .f32) : FVec Ideal S4x2304x2 .f32 :=
  addf (mulf (Host.divf (broadcastInDim S4x2304x2 ![] bcast_S_S4x2304x2 (constant S_ .f32 0x3F800000#32)) (addf (broadcastInDim S4x2304x2 ![] bcast_S_S4x2304x2 (constant S_ .f32 0x3F800000#32)) (Host.exp (Host.negf (norm z))))) (broadcastInDim S4x2304x2 ![] bcast_S_S4x2304x2 (constant S_ .f32 0x40A00000#32))) (broadcastInDim S4x2304x2 ![] bcast_S_S4x2304x2 (constant S_ .f32 0x3D4CCCCD#32))

/-- Their product. -/
def prod (s : FVec Ideal S4x2304x2 .f32) : FVec Ideal S4x2304 .f32 :=
  mulf (shapeCast S4x2304 (extractStridedSlice S4x2304x1 ![0, 0, 0] s slices_S4x2304x2_S4x2304x1_0_0_0) shapeCasts_S4x2304x1_S4x2304) (shapeCast S4x2304 (extractStridedSlice S4x2304x1 ![0, 0, 1] s slices_S4x2304x2_S4x2304x1_0_0_1) shapeCasts_S4x2304x1_S4x2304)

/-- The mean of each pixel: its coordinates plus the two heads. -/
def means (z : FVec Ideal S4x2304x2 .f32) : FVec Ideal S4x48x48x2 .f32 :=
  addf (broadcastInDim S4x48x48x2 ![0, 1, 2, 3] bcast_S1x48x48x2_S4x48x48x2_0_1_2_3 (broadcastInDim S1x48x48x2 ![1, 2, 3] bcast_S48x48x2_S1x48x48x2_1_2_3 (concatenate S48x48x2 2 [⟨S48x48x1, (broadcastInDim S48x48x1 ![0, 1] bcast_S48x48_S48x48x1_0_1 (broadcastInDim S48x48 ![1] bcast_S48_S48x48_1 (sitofp .f32 (iotaInDim S48 32 0))))⟩, ⟨S48x48x1, (broadcastInDim S48x48x1 ![0, 1] bcast_S48x48_S48x48x1_0_1 (broadcastInDim S48x48 ![0] bcast_S48_S48x48_0 (sitofp .f32 (iotaInDim S48 32 0))))⟩] concatenates_S48x48x1_S48x48x1_S48x48x2_d2))) (shapeCast S4x48x48x2 z shapeCasts_S4x2304x2_S4x48x48x2)

/-- Horizontal offset of each target column. -/
def offX (mn : FVec Ideal S4x48x48x2 .f32) : FVec Ideal S4x48x48x1x48 .f32 :=
  subf (broadcastInDim S4x48x48x1x48 ![0, 1, 2, 3, 4] bcast_S1x1x1x1x48_S4x48x48x1x48_0_1_2_3_4 (shapeCast S1x1x1x1x48 (sitofp .f32 (iotaInDim S48 32 0)) shapeCasts_S48_S1x1x1x1x48)) (broadcastInDim S4x48x48x1x48 ![0, 1, 2, 3, 4] bcast_S4x48x48x1x1_S4x48x48x1x48_0_1_2_3_4 (broadcastInDim S4x48x48x1x1 ![0, 1, 2] bcast_S4x48x48_S4x48x48x1x1_0_1_2 (shapeCast S4x48x48 (extractStridedSlice S4x48x48x1 ![0, 0, 0, 0] mn slices_S4x48x48x2_S4x48x48x1_0_0_0_0) shapeCasts_S4x48x48x1_S4x48x48)))

/-- Vertical offset of each target row. -/
def offY (mn : FVec Ideal S4x48x48x2 .f32) : FVec Ideal S4x48x48x48x1 .f32 :=
  subf (broadcastInDim S4x48x48x48x1 ![0, 1, 2, 3, 4] bcast_S1x1x1x48x1_S4x48x48x48x1_0_1_2_3_4 (shapeCast S1x1x1x48x1 (sitofp .f32 (iotaInDim S48 32 0)) shapeCasts_S48_S1x1x1x48x1)) (broadcastInDim S4x48x48x48x1 ![0, 1, 2, 3, 4] bcast_S4x48x48x1x1_S4x48x48x48x1_0_1_2_3_4 (broadcastInDim S4x48x48x1x1 ![0, 1, 2] bcast_S4x48x48_S4x48x48x1x1_0_1_2 (shapeCast S4x48x48 (extractStridedSlice S4x48x48x1 ![0, 0, 0, 1] mn slices_S4x48x48x2_S4x48x48x1_0_0_0_1) shapeCasts_S4x48x48x1_S4x48x48)))

/-- The weighted correlations. -/
def weighted (x1 : FVec Ideal S4x48x48x48x48 .f32) (s : FVec Ideal S4x2304x2 .f32) (mn : FVec Ideal S4x48x48x2 .f32) (dt : FVec Ideal S4x2304 .f32) : FVec Ideal S4x48x48x48x48 .f32 :=
  addf (Host.divf (mulf (mulf x1 (Host.exp (mulf (broadcastInDim S4x48x48x48x48 ![] bcast_S_S4x48x48x48x48 (constant S_ .f32 0xBF000000#32)) (addf (broadcastInDim S4x48x48x48x48 ![0, 1, 2, 3, 4] bcast_S4x48x48x1x48_S4x48x48x48x48_0_1_2_3_4 (Host.divf (mulf (offX mn) (offX mn)) (broadcastInDim S4x48x48x1x48 ![0, 1, 2, 3, 4] bcast_S4x48x48x1x1_S4x48x48x1x48_0_1_2_3_4 (broadcastInDim S4x48x48x1x1 ![0, 1, 2] bcast_S4x48x48_S4x48x48x1x1_0_1_2 (shapeCast S4x48x48 (extractStridedSlice S4x48x48x1 ![0, 0, 0, 0] (shapeCast S4x48x48x2 s shapeCasts_S4x2304x2_S4x48x48x2) slices_S4x48x48x2_S4x48x48x1_0_0_0_0) shapeCasts_S4x48x48x1_S4x48x48))))) (broadcastInDim S4x48x48x48x48 ![0, 1, 2, 3, 4] bcast_S4x48x48x48x1_S4x48x48x48x48_0_1_2_3_4 (Host.divf (mulf (offY mn) (offY mn)) (broadcastInDim S4x48x48x48x1 ![0, 1, 2, 3, 4] bcast_S4x48x48x1x1_S4x48x48x48x1_0_1_2_3_4 (broadcastInDim S4x48x48x1x1 ![0, 1, 2] bcast_S4x48x48_S4x48x48x1x1_0_1_2 (shapeCast S4x48x48 (extractStridedSlice S4x48x48x1 ![0, 0, 0, 1] (shapeCast S4x48x48x2 s shapeCasts_S4x2304x2_S4x48x48x2) slices_S4x48x48x2_S4x48x48x1_0_0_0_1) shapeCasts_S4x48x48x1_S4x48x48))))))))) (uitofp .f32 (andi (broadcastInDim S4x48x48x48x48 ![0, 1, 2, 3, 4] bcast_S4x48x48x1x48_S4x48x48x48x48_0_1_2_3_4 (cmpf .ole (Host.absf (offX mn)) (broadcastInDim S4x48x48x1x48 ![] bcast_S_S4x48x48x1x48 (constant S_ .f32 0x40C00000#32)))) (broadcastInDim S4x48x48x48x48 ![0, 1, 2, 3, 4] bcast_S4x48x48x48x1_S4x48x48x48x48_0_1_2_3_4 (cmpf .ole (Host.absf (offY mn)) (broadcastInDim S4x48x48x48x1 ![] bcast_S_S4x48x48x48x1 (constant S_ .f32 0x40C00000#32))))))) (broadcastInDim S4x48x48x48x48 ![0, 1, 2, 3, 4] bcast_S4x48x48x1x1_S4x48x48x48x48_0_1_2_3_4 (shapeCast S4x48x48x1x1 (Host.divf (mulf (broadcastInDim S4x2304 ![] bcast_S_S4x2304 (constant S_ .f32 0x431D0000#32)) (Host.sqrt dt)) (broadcastInDim S4x2304 ![] bcast_S_S4x2304 (constant S_ .f32 0x41C80000#32))) shapeCasts_S4x2304_S4x48x48x1x1))) x1

variable (m : (ℓ : Loc nD τ sig) → Buf (Elt Ideal) ℓ) (c : Dev nD)

/-- The argument of number 0 and so on, as vectors. -/
abbrev feats : FVec Ideal S4x48x48x16 .f32 :=
  hidden (m ((c.tc : Thread nD τ).loc main_arg0)) (m ((c.tc : Thread nD τ).loc main_arg2)) (m ((c.tc : Thread nD τ).loc main_arg3))
/-- The two variances of each pixel, from the arguments. -/
abbrev scales : FVec Ideal S4x2304x2 .f32 :=
  scale (heads (feats m c) (m ((c.tc : Thread nD τ).loc main_arg6)) (m ((c.tc : Thread nD τ).loc main_arg7)))
/-- The means, from the arguments. -/
abbrev centres : FVec Ideal S4x48x48x2 .f32 :=
  means (heads (feats m c) (m ((c.tc : Thread nD τ).loc main_arg4)) (m ((c.tc : Thread nD τ).loc main_arg5)))

set_option maxHeartbeats 1600000 in
/-- The third result is the product of the variances. -/
theorem third : res_main_v45 m c = prod (scales m c) := by
  unfold res_main_v45; rfl
set_option maxHeartbeats 1600000 in
/-- The first result is the weighted correlations. -/
theorem first : res_main_v112 m c
    = weighted (m ((c.tc : Thread nD τ).loc main_arg1)) (scales m c) (centres m c) (prod (scales m c)) := by
  unfold res_main_v112; rfl

/-- The reference's run, its results by stages. -/
theorem run (ρ : Dev nD → PrngReg) :
    θ_run defs (onTc (τ := τ) (main (F := Ideal))) ⟨m, fun _ => 0, ρ⟩ fun r => ∀ c : Dev nD,
      r.2.mem ((c.tc : Thread nD τ).loc main_v112)
        = weighted (m ((c.tc : Thread nD τ).loc main_arg1)) (scales m c) (centres m c) (prod (scales m c))
      ∧ r.2.mem ((c.tc : Thread nD τ).loc main_v57) = centres m c
      ∧ r.2.mem ((c.tc : Thread nD τ).loc main_v45) = prod (scales m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono
    (fun _ h c => ⟨(h c).1.trans (first m c), (h c).2.1, (h c).2.2.1.trans (third m c), (h c).2.2.2⟩)
    (Cert.ReferenceIdeal.Value.run m ρ)

end Cert.ReferenceIdeal.Stage

end
-- ==== Proof.RefVals.lean ====
/- The stages of the reference read at an index: they are the problem's mathematics. -/
module

public import proofs.«01_k».proof.Proof.Stages
public import proofs.«01_k».proof.Proof.Spec

@[expose] public section

set_option maxRecDepth 16384

noncomputable section

namespace Cert.ReferenceIdeal.Stage

open Idealize.ShloMosaic Idealize.ShloMosaic.TcCoe Idealize.SL.Sem Idealize.ShloMosaic.StableHlo
open Cert.ReferenceIdeal Cert.ReferenceIdeal.Gen
open Cert.Spec (head row col at_ num)

variable (x0 : FVec Ideal S4x48x48x256 .f32) (x1 : FVec Ideal S4x48x48x48x48 .f32) (x2 : FVec Ideal S16x256 .f32)
  (x3 : FVec Ideal S16 .f32) (a : FVec Ideal S2x16 .f32) (b : FVec Ideal S2 .f32)
  (z s : FVec Ideal S4x2304x2 .f32) (mn : FVec Ideal S4x48x48x2 .f32) (dt : FVec Ideal S4x2304 .f32)
  (q : Fin 4) (i j u v : Fin 48) (o : Fin 2) (p : Fin 2304)

/-- The two heads. -/
theorem heads_at : heads (hidden x0 x2 x3) a b (ix3 q p o) = head x0 x2 x3 a b q p o := by
  pointwise! [heads, hidden, head, row, col]

/-- The mean of a batch entry. -/
theorem mu_at : mu z (ix1 q) = Spec.mean fun p o => z (ix3 q p o) := by
  pointwise! [mu, Spec.mean, Spec.count]

/-- The variance of a batch entry: the count it divides by is positive, so the other branch is never taken. -/
theorem var_at : Stage.var z (ix1 q) = Spec.var fun p o => z (ix3 q p o) := by
  pointwise [Stage.var, muKept]
  have h : Ideal.ofBits .f32 0x45900000#32 - FloatOps.sitofp (F := Ideal) .f32 0#32 = Spec.count := by
    simp [FloatOps.sitofp, Spec.count]
  rw [h, if_pos (by rw [Spec.count_eq]; exact_mod_cast (by norm_num : (0 : ℝ) < 4608))]
  rfl

/-- A variance of a pixel. -/
theorem scale_at : scale z (ix3 q p o) = Spec.scale (fun p o => z (ix3 q p o)) p o := by
  pointwise [scale, norm]
  rw [mu_at, var_at]
  rfl

/-- The product of the variances. -/
theorem prod_at : prod s (ix2 q p) = s (ix3 q p 0) * s (ix3 q p 1) := by
  pointwise! [prod]

/-- A mean's horizontal coordinate. -/
theorem means_x : means z (ix4 q i j 0) = num j + z (ix3 q (at_ i j) 0) := by
  pointwise! [means, num, at_]

/-- A mean's vertical coordinate. -/
theorem means_y : means z (ix4 q i j 1) = num i + z (ix3 q (at_ i j) 1) := by
  pointwise! [means, num, at_]

/-- A weighted correlation. -/
theorem weighted_at : weighted x1 s mn dt (ix5 q i j u v)
    = Spec.weigh (x1 (ix5 q i j u v)) (num v - mn (ix4 q i j 0)) (num u - mn (ix4 q i j 1))
        (s (ix3 q (at_ i j) 0)) (s (ix3 q (at_ i j) 1)) (dt (ix2 q (at_ i j))) := by
  pointwise [weighted, offX, offY]
  rfl

end Cert.ReferenceIdeal.Stage

end
-- ==== Proof.Match.lean ====
/- The kernel's values and the reference's are the same arrays, given what the windows hold. -/
module

public import proofs.«01_k».proof.Proof.KernelVals
public import proofs.«01_k».proof.Proof.RefVals

@[expose] public section

set_option maxRecDepth 16384

noncomputable section

namespace Cert.KernelIdeal.Match

open Idealize.ShloMosaic Idealize.ShloMosaic.TcCoe Idealize.SL.Sem Idealize.ShloMosaic.StableHlo
open Cert.KernelIdeal Cert.KernelIdeal.Gen Cert.KernelIdeal.Body Cert.KernelIdeal.Vals
open Cert.Spec (num head pix at_)
open Cert.ReferenceIdeal (Stage.hidden Stage.heads Stage.scale Stage.means Stage.prod Stage.weighted)

variable {X : FVec Ideal S4x48x48x256 .f32} {W : FVec Ideal S16x256 .f32} {U : FVec Ideal S16 .f32}
  {A4 : FVec Ideal S2x16 .f32} {B5 : FVec Ideal S2 .f32} {A6 : FVec Ideal S2x16 .f32} {B7 : FVec Ideal S2 .f32}
  {x1 : FVec Ideal S256x16 .f32} {x2 : FVec Ideal S1x16 .f32} {x3 : FVec Ideal S8x16 .f32} {x4 : FVec Ideal S8x1 .f32}
  {x5 : FVec Ideal S4x9216 .f32} {x6 x7 : FVec Ideal S1x9216 .f32}

/-- The reference's variance of a pixel, over the arguments. -/
theorem ref_scale (q : Fin 4) (p : Fin 2304) (o : Fin 2) :
    Stage.scale (Stage.heads (Stage.hidden X W U) A6 B7) (ix3 q p o) = Spec.scale (head X W U A6 B7 q) p o := by
  rw [ReferenceIdeal.Stage.scale_at]
  exact congrArg (fun z => Spec.scale z p o) (funext fun p => funext fun o => ReferenceIdeal.Stage.heads_at X W U A6 B7 (q := q) (p := p) (o := o))

/-- The reference's horizontal mean of a pixel, over the arguments. -/
theorem ref_x (q : Fin 4) (i j : Fin 48) : Stage.means (Stage.heads (Stage.hidden X W U) A4 B5) (ix4 q i j 0)
    = num j + head X W U A4 B5 q (at_ i j) 0 :=
  (ReferenceIdeal.Stage.means_x _ q i j).trans (congrArg _ (ReferenceIdeal.Stage.heads_at X W U A4 B5 (q := q) (p := at_ i j) (o := 0)))

/-- The reference's vertical mean of a pixel, over the arguments. -/
theorem ref_y (q : Fin 4) (i j : Fin 48) : Stage.means (Stage.heads (Stage.hidden X W U) A4 B5) (ix4 q i j 1)
    = num i + head X W U A4 B5 q (at_ i j) 1 :=
  (ReferenceIdeal.Stage.means_y _ q i j).trans (congrArg _ (ReferenceIdeal.Stage.heads_at X W U A4 B5 (q := q) (p := at_ i j) (o := 1)))

/-- The reference's product of variances, over the arguments. -/
theorem ref_det (q : Fin 4) (p : Fin 2304) :
    Stage.prod (Stage.scale (Stage.heads (Stage.hidden X W U) A6 B7)) (ix2 q p) = Spec.det (head X W U A6 B7 q) p :=
  (ReferenceIdeal.Stage.prod_at _ q p).trans (congrArg₂ (· * ·) (ref_scale q p 0) (ref_scale q p 1))

variable (H : Holds X W U A4 B5 A6 B7 x1 x2 x3 x4 x5 x6 x7)
include H

/-- The kernel's determinants are the reference's. -/
theorem dets_eq : detVal (F := Ideal) X x1 x2 x3 x4 x5
    = Stage.prod (Stage.scale (Stage.heads (Stage.hidden X W U) A6 B7)) := by
  funext y
  idx_vars y
  exact (det_at H _ _).trans (ref_det _ _).symm

/-- The kernel's means are the reference's. -/
theorem means_eq : meanVal (F := Ideal) X x1 x2 x3 x4 x6 x7
    = Stage.means (Stage.heads (Stage.hidden X W U) A4 B5) := by
  funext y
  idx_vars y
  obtain rfl | rfl : y3 = 0 ∨ y3 = 1 := by omega
  · exact (Vals.means_x H _ _ _).trans (ref_x _ _ _).symm
  · exact (Vals.means_y H _ _ _).trans (ref_y _ _ _).symm

/-- A weighted correlation of the kernel is the reference's, when the rows and the block are those of its pixels. -/
theorem block_eq (C : FVec Ideal S4x48x48x48x48 .f32) (pk : FVec Ideal S384x8 .f32) (x8 : FVec Ideal S1x8x48x48x48 .f32)
    (e : Fin 1) (i8 : Fin 8) (q : Fin 4) (i j u v : Fin 48)
    (hpk : ∀ k : Fin 8, pk (ix2 ⟨i8.val * 48 + j.val, by omega⟩ k)
      = parkVal (F := Ideal) X x1 x2 x3 x4 x5 x6 x7 (ix2 (pix q (at_ i j)) k))
    (hx : x8 (ix5 e i8 j u v) = C (ix5 q i j u v)) :
    blockVal (F := Ideal) pk x8 (ix5 e i8 j u v)
      = Stage.weighted C (Stage.scale (Stage.heads (Stage.hidden X W U) A6 B7))
          (Stage.means (Stage.heads (Stage.hidden X W U) A4 B5))
          (Stage.prod (Stage.scale (Stage.heads (Stage.hidden X W U) A6 B7))) (ix5 q i j u v) := by
  refine (block_at pk x8 e i8 j u v).trans ?_
  rw [hpk 0, hpk 1, hpk 2, hpk 3, hpk 4, hx, park_0 H, park_1 H, park_2 H, park_3 H, park_4 H, Spec.row_at, Spec.col_at]
  refine (Spec.weigh_eq _ _ _ _ _ (Spec.scale_pos _ _ _) (Spec.scale_pos _ _ _)).trans ?_
  refine Eq.trans ?_ (ReferenceIdeal.Stage.weighted_at C _ _ _ q i j u v).symm
  rw [ref_x, ref_y, ref_scale, ref_scale, ref_det]
  rfl

end Cert.KernelIdeal.Match

end
-- ==== Proof.Arrays.lean ====
/- The kernel's three result arrays after its run are the reference's terms over the kernel's arguments. -/
module

public import proofs.«01_k».proof.Proof.HostAt
public import proofs.«01_k».proof.Proof.Match

@[expose] public section

set_option maxRecDepth 16384

noncomputable section

namespace Cert.KernelIdeal.Arrays

open Idealize.ShloMosaic Idealize.ShloMosaic.TcCoe Idealize.SL.Sem Idealize.ShloMosaic.StableHlo
open Idealize.ShloMosaic.Pipeline
open Cert.KernelIdeal Cert.KernelIdeal.Gen Cert.KernelIdeal.Body Cert.KernelIdeal.HostVals
open Cert.Spec (pix at_)
open Cert.ReferenceIdeal (Stage.hidden Stage.heads Stage.scale Stage.means Stage.prod Stage.weighted)

variable (m : (ℓ : Loc nD τ sig) → Buf (Elt Ideal) ℓ) (c : Dev nD)

/-- The two variances of each pixel, as the reference computes them from the kernel's arguments. -/
abbrev scales : FVec Ideal ReferenceIdeal.S4x2304x2 .f32 :=
  Stage.scale (Stage.heads (Stage.hidden (m ((c.tc : Thread nD τ).loc main_arg0)) (m ((c.tc : Thread nD τ).loc main_arg2))
    (m ((c.tc : Thread nD τ).loc main_arg3))) (m ((c.tc : Thread nD τ).loc main_arg6)) (m ((c.tc : Thread nD τ).loc main_arg7)))

/-- The means, as the reference computes them from the kernel's arguments. -/
abbrev centres : FVec Ideal S4x48x48x2 .f32 :=
  Stage.means (Stage.heads (Stage.hidden (m ((c.tc : Thread nD τ).loc main_arg0)) (m ((c.tc : Thread nD τ).loc main_arg2))
    (m ((c.tc : Thread nD τ).loc main_arg3))) (m ((c.tc : Thread nD τ).loc main_arg4)) (m ((c.tc : Thread nD τ).loc main_arg5)))

/-- The determinants the kernel computes are the reference's. -/
theorem dets_val : dets m c = Stage.prod (scales m c) := by
  unfold dets
  rw [blk0 m c t0]
  exact Match.dets_eq (holds m c t0)

/-- The means the kernel computes are the reference's. -/
theorem means_val : Body.means m c = centres m c := by
  unfold Body.means
  rw [blk0 m c t0]
  exact Match.means_eq (holds m c t0)

/-- The last point of the grid. -/
def tLast : Fin cfg0.N := ⟨23, by rw [show cfg0.N = 24 from N_0]; decide⟩

/-- The third result array after the run. -/
theorem final_11 : (dats m 0 c).arrAt 11 (cfgs 0).N = Stage.prod (scales m c) := by
  refine (dats m 0 c).arrAt_eq_of_after_last 11 tLast (by decide +kernel) _ fun j => ?_
  blk_simp
  rw [left_11, dets_val]

/-- The second result array after the run. -/
theorem final_10 : (dats m 0 c).arrAt 10 (cfgs 0).N = centres m c := by
  refine (dats m 0 c).arrAt_eq_of_after_last 10 tLast (by decide +kernel) _ fun j => ?_
  blk_simp
  rw [left_10, means_val]

/-- Where the rows a point works on begin in the table. -/
theorem off : ∀ t : Fin cfg0.N, k0_off1 (grid0.coords t) = ![((grid0.coords t 0).val * 6 + (grid0.coords t 1).val) * 384, 0] :=
  (by decide +kernel : ∀ t : Fin grid0.N, _)

/-- The grid's bounds. -/
theorem bounds : ∀ t : Fin cfg0.N, (grid0.coords t 0).val < 4 ∧ (grid0.coords t 1).val < 6 :=
  (by decide +kernel : ∀ t : Fin grid0.N, _)

/-- The rows a point works on, entry by entry. -/
theorem slab_at (t : Fin cfg0.N) (S : FVec Ideal S9216x8 .f32) (l : Fin 384) (k : Fin 8) (n : Fin 9216)
    (h : n.val = ((grid0.coords t 0).val * 6 + (grid0.coords t 1).val) * 384 + l.val) :
    slab (F := Ideal) (grid0.coords t) S (ix2 l k) = S (ix2 n k) := by
  pointwise [slab]
  refine congrArg S (congrArg₂ ix2 (Fin.ext ?_) (Fin.ext ?_))
  · show k0_off1 (grid0.coords t) 0 + l.val = n.val
    rw [off t, h]; rfl
  · show k0_off1 (grid0.coords t) 1 + k.val = k.val
    rw [off t]; exact Nat.zero_add _

/-- A point's block, entry by entry. -/
theorem block_val (t : Fin cfg0.N) (e : Fin 1) (i8 : Fin 8) (q : Fin 4) (i j u v : Fin 48)
    (hq : q.val = (grid0.coords t 0).val) (hi : i.val = (grid0.coords t 1).val * 8 + i8.val) :
    outBlock m c t (ix5 e i8 j u v)
      = Stage.weighted (m ((c.tc : Thread nD τ).loc main_arg1)) (scales m c) (centres m c) (Stage.prod (scales m c))
          (ix5 q i j u v) := by
  unfold outBlock Body.park
  rw [blk0 m c t0]
  refine Match.block_eq (holds m c t0) _ _ _ e i8 q i j u v (fun k => slab_at t _ _ k (pix q (at_ i j)) ?_) ?_
  · show q.val * 2304 + (i.val * 48 + j.val)
      = ((grid0.coords t 0).val * 6 + (grid0.coords t 1).val) * 384 + (i8.val * 48 + j.val)
    rw [hq, hi]; omega
  · blk_ext [iblk, V, idx t]

/-- The first result array after the run. -/
theorem final_9 : (dats m 0 c).arrAt 9 (cfgs 0).N
    = Stage.weighted (m ((c.tc : Thread nD τ).loc main_arg1)) (scales m c) (centres m c) (Stage.prod (scales m c)) := by
  refine (dats m 0 c).arrAt_eq_of_covers 9 _ (by decide +kernel) fun t _ y => ?_
  blk_simp
  rw [left_9]
  have hb := bounds t
  have h1 : (y 1).val < 8 := (y 1).isLt
  refine Eq.trans (congrArg (outBlock m c t) ?_) ((block_val m c t (y 0) (y 1) ⟨(grid0.coords t 0).val, hb.1⟩
    ⟨(grid0.coords t 1).val * 8 + (y 1).val, by omega⟩ (y 2) (y 3) (y 4) rfl rfl).trans (congrArg _ ?_))
  · blk_ext [idx t]
  · blk_ext [idx t]

/-- The kernel's run: its three results and its arguments. -/
theorem run (ρ : Dev nD → PrngReg) :
    θ_run defs (onTc (τ := τ) (main (F := Ideal))) ⟨m, fun _ => 0, ρ⟩ fun r => ∀ c : Dev nD,
      r.2.mem ((c.tc : Thread nD τ).loc main_v23_0)
        = Stage.weighted (m ((c.tc : Thread nD τ).loc main_arg1)) (scales m c) (centres m c) (Stage.prod (scales m c))
      ∧ r.2.mem ((c.tc : Thread nD τ).loc main_v23_1) = centres m c
      ∧ r.2.mem ((c.tc : Thread nD τ).loc main_v23_2) = Stage.prod (scales m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h.1.1.out_eq c 9).trans (final_9 m c), (h.1.1.out_eq c 10).trans (final_10 m c),
      (h.1.1.out_eq c 11).trans (final_11 m c), h.2.1 c⟩)
    (θ_run_and (run_all m ρ) (frame_all m ρ))

end Cert.KernelIdeal.Arrays

end
-- ==== Proof.Algebraic.lean ====
/- The idealized kernel and the reference compute the same three results. -/
module

public import proofs.«01_k».proof.Defs
public import proofs.«01_k».proof.Proof.Arrays
public import proofs.«01_k».proof.Proof.Stages

@[expose] public section

set_option maxRecDepth 16384

noncomputable section

namespace Cert.Proof

open Idealize.ShloMosaic Idealize.SL.Sem

/-- From equal arguments the kernel and the reference end with equal results, all three, and leave the arguments. -/
theorem algebraic : Cert.algebraic_KernelIdeal_ReferenceIdeal := by
  intro m g m' g' _ hagree
  refine ⟨_, _, _, Cert.KernelIdeal.Arrays.run m g,
    (θ_run Cert.ReferenceIdeal.defs _ _).mono (fun r h c => ?_) (Cert.ReferenceIdeal.Stage.run m' g')⟩
  obtain ⟨e0, e1, e2, e3, e4, e5, e6, e7⟩ := hagree c
  obtain ⟨r0, r1, r2, rest⟩ := h c
  have hs : Cert.ReferenceIdeal.Stage.scales m' c = Cert.KernelIdeal.Arrays.scales m c := by
    unfold Cert.ReferenceIdeal.Stage.scales Cert.ReferenceIdeal.Stage.feats
    rw [e0, e2, e3, e6, e7]
  have hc : Cert.ReferenceIdeal.Stage.centres m' c = Cert.KernelIdeal.Arrays.centres m c := by
    unfold Cert.ReferenceIdeal.Stage.centres Cert.ReferenceIdeal.Stage.feats
    rw [e0, e2, e3, e4, e5]
  rw [hs, hc, e1] at r0
  rw [hc] at r1
  rw [hs] at r2
  exact ⟨r0, r1, r2, rest⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, frame_p, frame_pi, frame_ri, preserves,
    algebraic⟩

end Cert.Proof

end
